-- ==== Defs.lean ====
def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_slots_distinct [hPre_slots_distinct : Cert.Pre_slots_distinct.Facts] (m : (ℓ : Loc Cert.InIdeal.nD Cert.InIdeal.τ Cert.InIdeal.sig) → Buf (Elt Ideal) ℓ) : Prop :=
  ∀ c : Dev Cert.InIdeal.nD,
    (Cert.Pre_slots_distinct.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5)) (m ((c.tc : Thread Cert.InIdeal.nD Cert.InIdeal.τ).loc Cert.InIdeal.main_arg6)) (m ((c.tc : Thread Cert.InIdeal.nD Cert.InIdeal.τ).loc Cert.InIdeal.main_arg7))) = (fun _ => 1#1)

def Pre_RefInIdeal (m : (ℓ : Loc Cert.RefInIdeal.nD Cert.RefInIdeal.τ Cert.RefInIdeal.sig) → Buf (Elt Ideal) ℓ) : Prop :=
  True

def Pre_RefInIdeal_slots_distinct [hPre_slots_distinct : Cert.Pre_slots_distinct.Facts] (m : (ℓ : Loc Cert.RefInIdeal.nD Cert.RefInIdeal.τ Cert.RefInIdeal.sig) → Buf (Elt Ideal) ℓ) : Prop :=
  ∀ c : Dev Cert.RefInIdeal.nD,
    (Cert.Pre_slots_distinct.fn (F := Ideal) (m ((c.tc : Thread Cert.RefInIdeal.nD Cert.RefInIdeal.τ).loc Cert.RefInIdeal.main_arg0)) (m ((c.tc : Thread Cert.RefInIdeal.nD Cert.RefInIdeal.τ).loc Cert.RefInIdeal.main_arg1)) (m ((c.tc : Thread Cert.RefInIdeal.nD Cert.RefInIdeal.τ).loc Cert.RefInIdeal.main_arg2)) (m ((c.tc : Thread Cert.RefInIdeal.nD Cert.RefInIdeal.τ).loc Cert.RefInIdeal.main_arg3)) (m ((c.tc : Thread Cert.RefInIdeal.nD Cert.RefInIdeal.τ).loc Cert.RefInIdeal.main_arg4)) (m ((c.tc : Thread Cert.RefInIdeal.nD Cert.RefInIdeal.τ).loc Cert.RefInIdeal.main_arg5)) (m ((c.tc : Thread Cert.RefInIdeal.nD Cert.RefInIdeal.τ).loc Cert.RefInIdeal.main_arg6)) (m ((c.tc : Thread Cert.RefInIdeal.nD Cert.RefInIdeal.τ).loc Cert.RefInIdeal.main_arg7))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InIdeal_pre_slots_distinct [hInIdeal : Cert.InIdeal.Facts] [hPre_slots_distinct : Cert.Pre_slots_distinct.Facts] : Prop :=
  ∀ (m : (ℓ : Loc Cert.InIdeal.nD Cert.InIdeal.τ Cert.InIdeal.sig) → Buf (Elt Ideal) ℓ) (g : Dev Cert.InIdeal.nD → PrngReg), Pre_InIdeal_slots_distinct m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7))
      ∧ r.2.sem = fun _ => 0)

def quiescent_RefInIdeal_pre_slots_distinct [hRefInIdeal : Cert.RefInIdeal.Facts] [hPre_slots_distinct : Cert.Pre_slots_distinct.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal_slots_distinct m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4))
      ∧ r.2.sem = fun _ => 0)

def preserves_In_InIdeal : Prop :=
  True

def algebraic_InIdeal_RefInIdeal_pre_slots_distinct [hInIdeal : Cert.InIdeal.Facts] [hRefInIdeal : Cert.RefInIdeal.Facts] [hPre_slots_distinct : Cert.Pre_slots_distinct.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal_slots_distinct m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)
      ∧ m' ((c.tc : Thread Cert.RefInIdeal.nD Cert.RefInIdeal.τ).loc Cert.RefInIdeal.main_arg2) = m ((c.tc : Thread Cert.InIdeal.nD Cert.InIdeal.τ).loc Cert.InIdeal.main_arg2)
      ∧ m' ((c.tc : Thread Cert.RefInIdeal.nD Cert.RefInIdeal.τ).loc Cert.RefInIdeal.main_arg3) = m ((c.tc : Thread Cert.InIdeal.nD Cert.InIdeal.τ).loc Cert.InIdeal.main_arg3)
      ∧ m' ((c.tc : Thread Cert.RefInIdeal.nD Cert.RefInIdeal.τ).loc Cert.RefInIdeal.main_arg4) = m ((c.tc : Thread Cert.InIdeal.nD Cert.InIdeal.τ).loc Cert.InIdeal.main_arg4)
      ∧ m' ((c.tc : Thread Cert.RefInIdeal.nD Cert.RefInIdeal.τ).loc Cert.RefInIdeal.main_arg5) = m ((c.tc : Thread Cert.InIdeal.nD Cert.InIdeal.τ).loc Cert.InIdeal.main_arg5)
      ∧ m' ((c.tc : Thread Cert.RefInIdeal.nD Cert.RefInIdeal.τ).loc Cert.RefInIdeal.main_arg6) = m ((c.tc : Thread Cert.InIdeal.nD Cert.InIdeal.τ).loc Cert.InIdeal.main_arg6)
      ∧ m' ((c.tc : Thread Cert.RefInIdeal.nD Cert.RefInIdeal.τ).loc Cert.RefInIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v9_0)) (v1 : (c : Dev Cert.InIdeal.nD) → Buf (Elt Ideal) ((c.tc : Thread Cert.InIdeal.nD Cert.InIdeal.τ).loc Cert.InIdeal.main_v9_1)) (v2 : (c : Dev Cert.InIdeal.nD) → Buf (Elt Ideal) ((c.tc : Thread Cert.InIdeal.nD Cert.InIdeal.τ).loc Cert.InIdeal.main_v9_2)) (v3 : (c : Dev Cert.InIdeal.nD) → Buf (Elt Ideal) ((c.tc : Thread Cert.InIdeal.nD Cert.InIdeal.τ).loc Cert.InIdeal.main_v9_3)) (v4 : (c : Dev Cert.InIdeal.nD) → Buf (Elt Ideal) ((c.tc : Thread Cert.InIdeal.nD Cert.InIdeal.τ).loc Cert.InIdeal.main_v9_4)) (v5 : (c : Dev Cert.InIdeal.nD) → Buf (Elt Ideal) ((c.tc : Thread Cert.InIdeal.nD Cert.InIdeal.τ).loc Cert.InIdeal.main_v9_5)) (v6 : (c : Dev Cert.InIdeal.nD) → Buf (Elt Ideal) ((c.tc : Thread Cert.InIdeal.nD Cert.InIdeal.τ).loc Cert.InIdeal.main_v9_6)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v9_0) = v0 c
          ∧ r.2.mem ((c.tc : Thread Cert.InIdeal.nD Cert.InIdeal.τ).loc Cert.InIdeal.main_v9_1) = v1 c
          ∧ r.2.mem ((c.tc : Thread Cert.InIdeal.nD Cert.InIdeal.τ).loc Cert.InIdeal.main_v9_2) = v2 c
          ∧ r.2.mem ((c.tc : Thread Cert.InIdeal.nD Cert.InIdeal.τ).loc Cert.InIdeal.main_v9_3) = v3 c
          ∧ r.2.mem ((c.tc : Thread Cert.InIdeal.nD Cert.InIdeal.τ).loc Cert.InIdeal.main_v9_4) = v4 c
          ∧ r.2.mem ((c.tc : Thread Cert.InIdeal.nD Cert.InIdeal.τ).loc Cert.InIdeal.main_v9_5) = v5 c
          ∧ r.2.mem ((c.tc : Thread Cert.InIdeal.nD Cert.InIdeal.τ).loc Cert.InIdeal.main_v9_6) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v30) = v0 c
          ∧ r.2.mem ((c.tc : Thread Cert.RefInIdeal.nD Cert.RefInIdeal.τ).loc Cert.RefInIdeal.main_v76) = v1 c
          ∧ r.2.mem ((c.tc : Thread Cert.RefInIdeal.nD Cert.RefInIdeal.τ).loc Cert.RefInIdeal.main_v90) = v2 c
          ∧ r.2.mem ((c.tc : Thread Cert.RefInIdeal.nD Cert.RefInIdeal.τ).loc Cert.RefInIdeal.main_v89) = v3 c
          ∧ r.2.mem ((c.tc : Thread Cert.RefInIdeal.nD Cert.RefInIdeal.τ).loc Cert.RefInIdeal.main_v91) = v4 c
          ∧ r.2.mem ((c.tc : Thread Cert.RefInIdeal.nD Cert.RefInIdeal.τ).loc Cert.RefInIdeal.main_v15) = v5 c
          ∧ r.2.mem ((c.tc : Thread Cert.RefInIdeal.nD Cert.RefInIdeal.τ).loc Cert.RefInIdeal.main_v92) = v6 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6)
          ∧ r.2.mem ((c.tc : Thread Cert.RefInIdeal.nD Cert.RefInIdeal.τ).loc Cert.RefInIdeal.main_arg7) = m' ((c.tc : Thread Cert.RefInIdeal.nD Cert.RefInIdeal.τ).loc Cert.RefInIdeal.main_arg7))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)) (v2 : (c : Dev Cert.OutIdeal.nD) → Buf (Elt Ideal) ((c.tc : Thread Cert.OutIdeal.nD Cert.OutIdeal.τ).loc Cert.OutIdeal.main_v2_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_v2_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v45) = v0 c
          ∧ r.2.mem ((c.tc : Thread Cert.RefOutIdeal.nD Cert.RefOutIdeal.τ).loc Cert.RefOutIdeal.main_v30) = v1 c
          ∧ r.2.mem ((c.tc : Thread Cert.RefOutIdeal.nD Cert.RefOutIdeal.τ).loc Cert.RefOutIdeal.main_v46) = v2 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4))

def Claim : Prop :=
  ∃ (hIn : Cert.In.Facts) (hInIdeal : Cert.InIdeal.Facts) (hRefInIdeal : Cert.RefInIdeal.Facts) (hOut : Cert.Out.Facts) (hOutIdeal : Cert.OutIdeal.Facts) (hRefOutIdeal : Cert.RefOutIdeal.Facts) (hPre_slots_distinct : Cert.Pre_slots_distinct.Facts),
    quiescent_In (hIn := hIn)
    ∧ quiescent_InIdeal (hInIdeal := hInIdeal)
    ∧ quiescent_InIdeal_pre_slots_distinct (hInIdeal := hInIdeal) (hPre_slots_distinct := hPre_slots_distinct)
    ∧ quiescent_RefInIdeal (hRefInIdeal := hRefInIdeal)
    ∧ quiescent_RefInIdeal_pre_slots_distinct (hRefInIdeal := hRefInIdeal) (hPre_slots_distinct := hPre_slots_distinct)
    ∧ quiescent_Out (hOut := hOut)
    ∧ quiescent_OutIdeal (hOutIdeal := hOutIdeal)
    ∧ quiescent_RefOutIdeal (hRefOutIdeal := hRefOutIdeal)
    ∧ preserves_In_InIdeal
    ∧ algebraic_InIdeal_RefInIdeal_pre_slots_distinct (hInIdeal := hInIdeal) (hRefInIdeal := hRefInIdeal) (hPre_slots_distinct := hPre_slots_distinct)
    ∧ preserves_Out_OutIdeal
    ∧ algebraic_OutIdeal_RefOutIdeal (hOutIdeal := hOutIdeal) (hRefOutIdeal := hRefOutIdeal)
-- ==== Pre_slots_distinct.lean ====
abbrev S120x1x4096 : Shape := ⟨3, ![120, 1, 4096]⟩
abbrev S120 : Shape := ⟨1, ![120]⟩
abbrev S4096x18496 : Shape := ⟨2, ![4096, 18496]⟩
abbrev S18496 : Shape := ⟨1, ![18496]⟩
abbrev S153x10240x3 : Shape := ⟨3, ![153, 10240, 3]⟩
abbrev S10240x4 : Shape := ⟨2, ![10240, 4]⟩
abbrev S10240 : Shape := ⟨1, ![10240]⟩
abbrev S64 : Shape := ⟨1, ![64]⟩
abbrev S120x1 : Shape := ⟨2, ![120, 1]⟩
abbrev S1x120 : Shape := ⟨2, ![1, 120]⟩
abbrev S120x120 : Shape := ⟨2, ![120, 120]⟩
abbrev S_ : Shape := ⟨0, ![]⟩

class Facts : Prop where
  bcast_S120_S120x1_0 : S120.BroadcastsInDim S120x1 (![0] : Fin 1 → Fin S120x1.rank)
  bcast_S120_S1x120_1 : S120.BroadcastsInDim S1x120 (![1] : Fin 1 → Fin S1x120.rank)
  bcast_S120x1_S120x120_0_1 : S120x1.BroadcastsInDim S120x120 (![0, 1] : Fin 2 → Fin S120x120.rank)
  bcast_S1x120_S120x120_0_1 : S1x120.BroadcastsInDim S120x120 (![0, 1] : Fin 2 → Fin S120x120.rank)
  bcast_S_S120 : S_.BroadcastsInDim S120 (![] : Fin 0 → Fin S120.rank)

variable [Facts]

def fn {F : FTy → Type} [FloatOps F] (main_arg0 : FVec F S120x1x4096 .bf16) (main_arg1 : IVec S120 32) (main_arg2 : IVec S4096x18496 8) (main_arg3 : FVec F S18496 .f32) (main_arg4 : FVec F S153x10240x3 .bf16) (main_arg5 : FVec F S10240x4 .f32) (main_arg6 : FVec F S10240 .f32) (main_arg7 : FVec F S64 .f32) : IVec S120x120 1 :=
  let main_v0 : IVec S120 32 := iotaInDim S120 32 0
  let main_v1 : IVec S120x1 32 := broadcastInDim S120x1 ![0] bcast_S120_S120x1_0 main_arg1
  let main_v2 : IVec S1x120 32 := broadcastInDim S1x120 ![1] bcast_S120_S1x120_1 main_arg1
  let main_v3 : IVec S120x120 32 := broadcastInDim S120x120 ![0, 1] bcast_S120x1_S120x120_0_1 main_v1
  let main_v4 : IVec S120x120 32 := broadcastInDim S120x120 ![0, 1] bcast_S1x120_S120x120_0_1 main_v2
  let main_v5 : IVec S120x120 1 := cmpi .ne main_v3 main_v4
  let main_v6 : IVec S120x1 32 := broadcastInDim S120x1 ![0] bcast_S120_S120x1_0 main_v0
  let main_v7 : IVec S1x120 32 := broadcastInDim S1x120 ![1] bcast_S120_S1x120_1 main_v0
  let main_v8 : IVec S120x120 32 := broadcastInDim S120x120 ![0, 1] bcast_S120x1_S120x120_0_1 main_v6
  let main_v9 : IVec S120x120 32 := broadcastInDim S120x120 ![0, 1] bcast_S1x120_S120x120_0_1 main_v7
  let main_v10 : IVec S120x120 1 := cmpi .eq main_v8 main_v9
  let main_v11 : IVec S120x120 1 := ori main_v5 main_v10
  let main_c : IVec S_ 32 := constantI S_ 32 0#32
  let main_v12 : IVec S120 32 := broadcastInDim S120 ![] bcast_S_S120 main_c
  let main_v13 : IVec S120 1 := cmpi .sge main_arg1 main_v12
  let main_v14 : IVec S120x1 1 := broadcastInDim S120x1 ![0] bcast_S120_S120x1_0 main_v13
  let main_v15 : IVec S120x120 1 := broadcastInDim S120x120 ![0, 1] bcast_S120x1_S120x120_0_1 main_v14
  let main_v16 : IVec S120x120 1 := andi main_v11 main_v15
  main_v16
-- ==== In.lean ====
abbrev S120x1x4096 : Shape := ⟨3, ![120, 1, 4096]⟩
abbrev S120 : Shape := ⟨1, ![120]⟩
abbrev S4096x18496 : Shape := ⟨2, ![4096, 18496]⟩
abbrev S18496 : Shape := ⟨1, ![18496]⟩
abbrev S153x10240x3 : Shape := ⟨3, ![153, 10240, 3]⟩
abbrev S10240x4 : Shape := ⟨2, ![10240, 4]⟩
abbrev S10240 : Shape := ⟨1, ![10240]⟩
abbrev S64 : Shape := ⟨1, ![64]⟩
abbrev S_ : Shape := ⟨0, ![]⟩
abbrev S128 : Shape := ⟨1, ![128]⟩
abbrev S1x128 : Shape := ⟨2, ![1, 128]⟩
abbrev S120x4096 : Shape := ⟨2, ![120, 4096]⟩
abbrev S18496x4096 : Shape := ⟨2, ![18496, 4096]⟩
abbrev S1x18496 : Shape := ⟨2, ![1, 18496]⟩
abbrev S3x153x10240 : Shape := ⟨3, ![3, 153, 10240]⟩
abbrev S4x10240 : Shape := ⟨2, ![4, 10240]⟩
abbrev S1x10240 : Shape := ⟨2, ![1, 10240]⟩
abbrev S1x64 : Shape := ⟨2, ![1, 64]⟩
abbrev S120x8192 : Shape := ⟨2, ![120, 8192]⟩
abbrev S153x10240 : Shape := ⟨2, ![153, 10240]⟩
abbrev S120x64 : Shape := ⟨2, ![120, 64]⟩
abbrev S120x1 : Shape := ⟨2, ![120, 1]⟩
abbrev S153x1 : Shape := ⟨2, ![153, 1]⟩
abbrev S512x4096 : Shape := ⟨2, ![512, 4096]⟩
abbrev S1x512 : Shape := ⟨2, ![1, 512]⟩
abbrev S3x153x512 : Shape := ⟨3, ![3, 153, 512]⟩
abbrev S4x512 : Shape := ⟨2, ![4, 512]⟩
abbrev S120x512 : Shape := ⟨2, ![120, 512]⟩
abbrev S153x512 : Shape := ⟨2, ![153, 512]⟩
abbrev S128x4096 : Shape := ⟨2, ![128, 4096]⟩
abbrev S153x128 : Shape := ⟨2, ![153, 128]⟩
abbrev S8x4096 : Shape := ⟨2, ![8, 4096]⟩
abbrev S153 : Shape := ⟨1, ![153]⟩
abbrev S4096x512 : Shape := ⟨2, ![4096, 512]⟩
abbrev S128x512 : Shape := ⟨2, ![128, 512]⟩
abbrev S8x512 : Shape := ⟨2, ![8, 512]⟩
abbrev S1x153x512 : Shape := ⟨3, ![1, 153, 512]⟩

abbrev nBuf : Space → Nat
  | .hbm => 26
  | .vmem => 25
  | .smem => 0
  | _ => 0

abbrev bufTy : (tb : Table) → Fin (tcTables nBuf tb) → BufTy
  | .hbm, ⟨0, _⟩ => ⟨S120x1x4096, .bf16⟩
  | .hbm, ⟨1, _⟩ => ⟨S120, .i32⟩
  | .hbm, ⟨2, _⟩ => ⟨S4096x18496, .i8⟩
  | .hbm, ⟨3, _⟩ => ⟨S18496, .f32⟩
  | .hbm, ⟨4, _⟩ => ⟨S153x10240x3, .bf16⟩
  | .hbm, ⟨5, _⟩ => ⟨S10240x4, .f32⟩
  | .hbm, ⟨6, _⟩ => ⟨S10240, .f32⟩
  | .hbm, ⟨7, _⟩ => ⟨S64, .f32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S1x128, .i32⟩
  | .hbm, ⟨12, _⟩ => ⟨S120x4096, .bf16⟩
  | .hbm, ⟨13, _⟩ => ⟨S18496x4096, .i8⟩
  | .hbm, ⟨14, _⟩ => ⟨S1x18496, .f32⟩
  | .hbm, ⟨15, _⟩ => ⟨S3x153x10240, .bf16⟩
  | .hbm, ⟨16, _⟩ => ⟨S4x10240, .f32⟩
  | .hbm, ⟨17, _⟩ => ⟨S1x10240, .f32⟩
  | .hbm, ⟨18, _⟩ => ⟨S1x64, .f32⟩
  | .hbm, ⟨19, _⟩ => ⟨S120x8192, .f32⟩
  | .hbm, ⟨20, _⟩ => ⟨S153x10240, .f32⟩
  | .hbm, ⟨21, _⟩ => ⟨S3x153x10240, .bf16⟩
  | .hbm, ⟨22, _⟩ => ⟨S120x64, .f32⟩
  | .hbm, ⟨23, _⟩ => ⟨S120x4096, .i8⟩
  | .hbm, ⟨24, _⟩ => ⟨S120x1, .f32⟩
  | .hbm, ⟨25, _⟩ => ⟨S153x1, .i32⟩
  | .local _ .vmem, ⟨0, _⟩ => ⟨S120x4096, .bf16⟩
  | .local _ .vmem, ⟨1, _⟩ => ⟨S1x128, .i32⟩
  | .local _ .vmem, ⟨2, _⟩ => ⟨S512x4096, .i8⟩
  | .local _ .vmem, ⟨3, _⟩ => ⟨S512x4096, .i8⟩
  | .local _ .vmem, ⟨4, _⟩ => ⟨S1x512, .f32⟩
  | .local _ .vmem, ⟨5, _⟩ => ⟨S1x512, .f32⟩
  | .local _ .vmem, ⟨6, _⟩ => ⟨S3x153x512, .bf16⟩
  | .local _ .vmem, ⟨7, _⟩ => ⟨S3x153x512, .bf16⟩
  | .local _ .vmem, ⟨8, _⟩ => ⟨S4x512, .f32⟩
  | .local _ .vmem, ⟨9, _⟩ => ⟨S4x512, .f32⟩
  | .local _ .vmem, ⟨10, _⟩ => ⟨S1x512, .f32⟩
  | .local _ .vmem, ⟨11, _⟩ => ⟨S1x512, .f32⟩
  | .local _ .vmem, ⟨12, _⟩ => ⟨S1x64, .f32⟩
  | .local _ .vmem, ⟨13, _⟩ => ⟨S120x512, .f32⟩
  | .local _ .vmem, ⟨14, _⟩ => ⟨S120x512, .f32⟩
  | .local _ .vmem, ⟨15, _⟩ => ⟨S153x512, .f32⟩
  | .local _ .vmem, ⟨16, _⟩ => ⟨S153x512, .f32⟩
  | .local _ .vmem, ⟨17, _⟩ => ⟨S3x153x512, .bf16⟩
  | .local _ .vmem, ⟨18, _⟩ => ⟨S3x153x512, .bf16⟩
  | .local _ .vmem, ⟨19, _⟩ => ⟨S120x64, .f32⟩
  | .local _ .vmem, ⟨20, _⟩ => ⟨S120x4096, .i8⟩
  | .local _ .vmem, ⟨21, _⟩ => ⟨S120x1, .f32⟩
  | .local _ .vmem, ⟨22, _⟩ => ⟨S153x1, .i32⟩
  | .local _ .vmem, ⟨23, _⟩ => ⟨S128x4096, .bf16⟩
  | .local _ .vmem, ⟨24, _⟩ => ⟨S153x128, .bf16⟩
  | _, _ => ⟨S120x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c16_i32 : BitVec 32 := 16#32
  let v18 : BitVec 1 := Scalar.cmpi .slt arg0 c16_i32
  let v19 : BitVec 32 := Scalar.extui v18
  let c0_i32_8 : BitVec 32 := 0#32
  let v20 : BitVec 1 := Scalar.cmpi .ne v19 c0_i32_8
  v20

def k0_cond3 (i : grid0.Coords) : BitVec 1 :=
  let arg0 : BitVec 32 := BitVec.ofNat 32 (i 0).val
  let c16_i32_9 : BitVec 32 := 16#32
  let v21 : BitVec 1 := Scalar.cmpi .sge arg0 c16_i32_9
  let c36_i32 : BitVec 32 := 36#32
  let v22 : BitVec 1 := Scalar.cmpi .slt arg0 c36_i32
  let v23 : BitVec 1 := Scalar.andi v21 v22
  let v24 : BitVec 32 := Scalar.extui v23
  let c0_i32_10 : BitVec 32 := 0#32
  let v25 : BitVec 1 := Scalar.cmpi .ne v24 c0_i32_10
  v25

def k0_cond4 (i : grid0.Coords) : BitVec 1 :=
  let arg0 : BitVec 32 := BitVec.ofNat 32 (i 0).val
  let c36_i32_11 : BitVec 32 := 36#32
  let v26 : BitVec 1 := Scalar.cmpi .eq arg0 c36_i32_11
  let v27 : BitVec 32 := Scalar.extui v26
  let c0_i32_12 : BitVec 32 := 0#32
  let v28 : BitVec 1 := Scalar.cmpi .ne v27 c0_i32_12
  v28

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  let c0_i32_2 : BitVec 32 := 0#32
  ![c0_i32_0.toNat, c0_i32_1.toNat, v2.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  ![c0_i32_0.toNat, v2.toNat]

def cc0_transform_10 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  let c0_i32_2 : BitVec 32 := 0#32
  ![c0_i32_0.toNat, c0_i32_1.toNat, v2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S120x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x153x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S120x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S153x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x153x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S120x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S120x4096 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S120x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S153x1 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefInIdeal.lean ====
abbrev S120x1x4096 : Shape := ⟨3, ![120, 1, 4096]⟩
abbrev S120 : Shape := ⟨1, ![120]⟩
abbrev S4096x18496 : Shape := ⟨2, ![4096, 18496]⟩
abbrev S18496 : Shape := ⟨1, ![18496]⟩
abbrev S153x10240x3 : Shape := ⟨3, ![153, 10240, 3]⟩
abbrev S10240x4 : Shape := ⟨2, ![10240, 4]⟩
abbrev S10240 : Shape := ⟨1, ![10240]⟩
abbrev S64 : Shape := ⟨1, ![64]⟩
abbrev S_ : Shape := ⟨0, ![]⟩
abbrev S120x1 : Shape := ⟨2, ![120, 1]⟩
abbrev S120x1x1 : Shape := ⟨3, ![120, 1, 1]⟩
abbrev S120x1x18496 : Shape := ⟨3, ![120, 1, 18496]⟩
abbrev S1x1x18496 : Shape := ⟨3, ![1, 1, 18496]⟩
abbrev S120x18496 : Shape := ⟨2, ![120, 18496]⟩
abbrev S120x8192 : Shape := ⟨2, ![120, 8192]⟩
abbrev S120x10240 : Shape := ⟨2, ![120, 10240]⟩
abbrev S120x64 : Shape := ⟨2, ![120, 64]⟩
abbrev S120x10240x3 : Shape := ⟨3, ![120, 10240, 3]⟩
abbrev S120x10240x1 : Shape := ⟨3, ![120, 10240, 1]⟩
abbrev S120x10240x4 : Shape := ⟨3, ![120, 10240, 4]⟩
abbrev S1x10240x4 : Shape := ⟨3, ![1, 10240, 4]⟩
abbrev S1x10240 : Shape := ⟨2, ![1, 10240]⟩
abbrev S10240x3 : Shape := ⟨2, ![10240, 3]⟩
abbrev S1x10240x3 : Shape := ⟨3, ![1, 10240, 3]⟩
abbrev S153x10240 : Shape := ⟨2, ![153, 10240]⟩
abbrev S153 : Shape := ⟨1, ![153]⟩
abbrev S1x64 : Shape := ⟨2, ![1, 64]⟩
abbrev S3x153x10240 : Shape := ⟨3, ![3, 153, 10240]⟩
abbrev S120x4096 : Shape := ⟨2, ![120, 4096]⟩
abbrev S153x1 : Shape := ⟨2, ![153, 1]⟩

abbrev nBuf : Space → Nat
  | .hbm => 154
  | .vmem => 0
  | .smem => 0
  | _ => 0

abbrev hbmTy0_0 (i : Nat) : BufTy := match i % 128 with
  | 0 => ⟨S120x1x4096, .bf16⟩
  | 1 => ⟨S120, .i32⟩
  | 2 => ⟨S4096x18496, .i8⟩
  | 3 => ⟨S18496, .f32⟩
  | 4 => ⟨S153x10240x3, .bf16⟩
  | 5 => ⟨S10240x4, .f32⟩
  | 6 => ⟨S10240, .f32⟩
  | 7 => ⟨S64, .f32⟩
  | 8 => ⟨S120x1x4096, .f32⟩
  | 9 => ⟨S120x1x4096, .f32⟩
  | 10 => ⟨S_, .f32⟩
  | 11 => ⟨S120x1, .f32⟩
  | 12 => ⟨S120x1x1, .f32⟩
  | 13 => ⟨S_, .f32⟩
  | 14 => ⟨S120x1x1, .f32⟩
  | 15 => ⟨S120x1x1, .i1⟩
  | 16 => ⟨S_, .f32⟩
  | 17 => ⟨S120x1x1, .f32⟩
  | 18 => ⟨S120x1x1, .f32⟩
  | 19 => ⟨S_, .f32⟩
  | 20 => ⟨S_, .f32⟩
  | 21 => ⟨S120x1x1, .f32⟩
  | 22 => ⟨S120x1x1, .f32⟩
  | 23 => ⟨S120x1x4096, .f32⟩
  | 24 => ⟨S120x1x4096, .f32⟩
  | 25 => ⟨S120x1x4096, .f32⟩
  | 26 => ⟨S_, .f32⟩
  | 27 => ⟨S_, .f32⟩
  | 28 => ⟨S_, .f32⟩
  | 29 => ⟨S120x1x4096, .f32⟩
  | 30 => ⟨S120x1x4096, .f32⟩
  | 31 => ⟨S_, .f32⟩
  | 32 => ⟨S120x1x4096, .f32⟩
  | 33 => ⟨S120x1x4096, .f32⟩
  | 34 => ⟨S120x1x4096, .i32⟩
  | 35 => ⟨S120x1x4096, .i8⟩
  | 36 => ⟨S120x1, .f32⟩
  | 37 => ⟨S120x1x4096, .i32⟩
  | 38 => ⟨S120x1x4096, .f32⟩
  | 39 => ⟨S120x1x4096, .bf16⟩
  | 40 => ⟨S4096x18496, .i32⟩
  | 41 => ⟨S4096x18496, .f32⟩
  | 42 => ⟨S4096x18496, .bf16⟩
  | 43 => ⟨S120x1x18496, .f32⟩
  | 44 => ⟨S120x1x1, .f32⟩
  | 45 => ⟨S120x1x18496, .f32⟩
  | 46 => ⟨S120x1x18496, .f32⟩
  | 47 => ⟨S1x1x18496, .f32⟩
  | 48 => ⟨S120x1x18496, .f32⟩
  | 49 => ⟨S120x1x18496, .f32⟩
  | 50 => ⟨S120x18496, .f32⟩
  | 51 => ⟨S120x8192, .f32⟩
  | 52 => ⟨S120x10240, .f32⟩
  | 53 => ⟨S120x64, .f32⟩
  | 54 => ⟨S120x10240, .bf16⟩
  | 55 => ⟨S_, .i32⟩
  | 56 => ⟨S120, .i32⟩
  | 57 => ⟨S120, .i1⟩
  | 58 => ⟨S_, .i32⟩
  | 59 => ⟨S120, .i32⟩
  | 60 => ⟨S120, .i32⟩
  | 61 => ⟨S120, .i32⟩
  | 62 => ⟨S120x1, .i32⟩
  | 63 => ⟨S120x10240x3, .bf16⟩
  | 64 => ⟨S120x10240x1, .bf16⟩
  | 65 => ⟨S120x10240x4, .bf16⟩
  | 66 => ⟨S120x10240x4, .f32⟩
  | 67 => ⟨S1x10240x4, .f32⟩
  | 68 => ⟨S120x10240x4, .f32⟩
  | 69 => ⟨S120x10240x4, .f32⟩
  | 70 => ⟨S_, .f32⟩
  | 71 => ⟨S120x10240, .f32⟩
  | 72 => ⟨S1x10240, .f32⟩
  | 73 => ⟨S120x10240, .f32⟩
  | 74 => ⟨S120x10240, .f32⟩
  | 75 => ⟨S120x10240, .f32⟩
  | 76 => ⟨S120x10240, .f32⟩
  | 77 => ⟨S_, .f32⟩
  | 78 => ⟨S120x10240, .f32⟩
  | 79 => ⟨S120x10240, .f32⟩
  | 80 => ⟨S_, .f32⟩
  | 81 => ⟨S120x10240, .f32⟩
  | 82 => ⟨S120x10240, .f32⟩
  | 83 => ⟨S120x10240, .f32⟩
  | 84 => ⟨S120x10240x3, .bf16⟩
  | 85 => ⟨S_, .i32⟩
  | 86 => ⟨S120, .i32⟩
  | 87 => ⟨S120, .i1⟩
  | 88 => ⟨S_, .i32⟩
  | 89 => ⟨S120, .i32⟩
  | 90 => ⟨S120, .i32⟩
  | 91 => ⟨S120, .i32⟩
  | 92 => ⟨S120x1, .i32⟩
  | 93 => ⟨S153x10240x3, .bf16⟩
  | 94 => ⟨S153x10240x3, .f32⟩
  | 95 => ⟨S10240x3, .f32⟩
  | 96 => ⟨S1x10240x3, .f32⟩
  | 97 => ⟨S153x10240x3, .f32⟩
  | 98 => ⟨S153x10240x3, .f32⟩
  | 99 => ⟨S_, .f32⟩
  | 100 => ⟨S153x10240, .f32⟩
  | 101 => ⟨S1x10240, .f32⟩
  | 102 => ⟨S153x10240, .f32⟩
  | 103 => ⟨S153x10240, .f32⟩
  | 104 => ⟨S153x10240, .f32⟩
  | 105 => ⟨S153x10240, .f32⟩
  | 106 => ⟨S_, .f32⟩
  | 107 => ⟨S153x10240, .f32⟩
  | 108 => ⟨S153x10240, .f32⟩
  | 109 => ⟨S_, .f32⟩
  | 110 => ⟨S153x10240, .f32⟩
  | 111 => ⟨S153x10240, .f32⟩
  | 112 => ⟨S153x10240, .f32⟩
  | 113 => ⟨S_, .i32⟩
  | 114 => ⟨S120, .i32⟩
  | 115 => ⟨S120, .i1⟩
  | 116 => ⟨S_, .i32⟩
  | 117 => ⟨S120, .i32⟩
  | 118 => ⟨S120, .i32⟩
  | 119 => ⟨S120, .i32⟩
  | 120 => ⟨S120x1, .i32⟩
  | 121 => ⟨S153x10240, .f32⟩
  | 122 => ⟨S_, .i32⟩
  | 123 => ⟨S153, .i32⟩
  | 124 => ⟨S120, .i32⟩
  | 125 => ⟨S_, .i32⟩
  | 126 => ⟨S120, .i32⟩
  | 127 => ⟨S120, .i1⟩
  | _ => ⟨S120x1x4096, .bf16⟩

abbrev hbmTy0_1 (i : Nat) : BufTy := match i % 128 with
  | 0 => ⟨S_, .i32⟩
  | 1 => ⟨S120, .i32⟩
  | 2 => ⟨S120, .i32⟩
  | 3 => ⟨S120, .i32⟩
  | 4 => ⟨S120x1, .i32⟩
  | 5 => ⟨S153, .i32⟩
  | 6 => ⟨S1x64, .f32⟩
  | 7 => ⟨S120x64, .f32⟩
  | 8 => ⟨S120x64, .f32⟩
  | 9 => ⟨S_, .f32⟩
  | 10 => ⟨S120x64, .f32⟩
  | 11 => ⟨S120x64, .f32⟩
  | 12 => ⟨S120x64, .f32⟩
  | 13 => ⟨S120x64, .f32⟩
  | 14 => ⟨S120x64, .i1⟩
  | 15 => ⟨S120x64, .f32⟩
  | 16 => ⟨S120x64, .f32⟩
  | 17 => ⟨S120x64, .f32⟩
  | 18 => ⟨S120x64, .f32⟩
  | 19 => ⟨S120x64, .f32⟩
  | 20 => ⟨S120x64, .f32⟩
  | 21 => ⟨S120x64, .f32⟩
  | 22 => ⟨S120x64, .f32⟩
  | 23 => ⟨S3x153x10240, .bf16⟩
  | 24 => ⟨S120x4096, .i8⟩
  | 25 => ⟨S153x1, .i32⟩
  | _ => ⟨S120x1x4096, .bf16⟩

abbrev hbmTy (i : Nat) : BufTy := match i / 128 with
  | 0 => hbmTy0_0 i
  | 1 => hbmTy0_1 i
  | _ => ⟨S120x1x4096, .bf16⟩

abbrev bufTy : (tb : Table) → Fin (tcTables nBuf tb) → BufTy
  | .hbm, ⟨i, _⟩ => hbmTy i
  | _, _ => ⟨S120x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v51 : Ref sig .tc := ⟨.hbm, 83, rfl⟩
abbrev main_v52 : Ref sig .tc := ⟨.hbm, 84, rfl⟩
abbrev main_c_7 : Ref sig .tc := ⟨.hbm, 85, rfl⟩
abbrev main_v53 : Ref sig .tc := ⟨.hbm, 86, rfl⟩
abbrev main_v54 : Ref sig .tc := ⟨.hbm, 87, rfl⟩
abbrev main_c_8 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_9 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v69 : Ref sig .tc := ⟨.hbm, 112, rfl⟩
abbrev main_c_10 : Ref sig .tc := ⟨.hbm, 113, rfl⟩
abbrev main_v70 : Ref sig .tc := ⟨.hbm, 114, rfl⟩
abbrev main_v71 : Ref sig .tc := ⟨.hbm, 115, rfl⟩
abbrev main_c_11 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_12 : Ref sig .tc := ⟨.hbm, 122, rfl⟩
abbrev main_v77 : Ref sig .tc := ⟨.hbm, 123, rfl⟩
abbrev main_v78 : Ref sig .tc := ⟨.hbm, 124, rfl⟩
abbrev main_c_13 : Ref sig .tc := ⟨.hbm, 125, rfl⟩
abbrev main_v79 : Ref sig .tc := ⟨.hbm, 126, rfl⟩
abbrev main_v80 : Ref sig .tc := ⟨.hbm, 127, rfl⟩
abbrev main_c_14 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩

abbrev nD : Nat := 1
abbrev τ : Topo := Topo.v7x

variable {F : FTy → Type} [FloatOps F]
-- ==== Out.lean ====
abbrev S120x8192 : Shape := ⟨2, ![120, 8192]⟩
abbrev S8192 : Shape := ⟨1, ![8192]⟩
abbrev S8192x4096 : Shape := ⟨2, ![8192, 4096]⟩
abbrev S4096 : Shape := ⟨1, ![4096]⟩
abbrev S1x8192 : Shape := ⟨2, ![1, 8192]⟩
abbrev S1x4096 : Shape := ⟨2, ![1, 4096]⟩
abbrev S120x4096 : Shape := ⟨2, ![120, 4096]⟩
abbrev S120x1 : Shape := ⟨2, ![120, 1]⟩
abbrev S8192x256 : Shape := ⟨2, ![8192, 256]⟩
abbrev S1x256 : Shape := ⟨2, ![1, 256]⟩
abbrev S120x256 : Shape := ⟨2, ![120, 256]⟩
abbrev S128x8192 : Shape := ⟨2, ![128, 8192]⟩
abbrev S120x2048 : Shape := ⟨2, ![120, 2048]⟩
abbrev S120 : Shape := ⟨1, ![120]⟩
abbrev S1x2048 : Shape := ⟨2, ![1, 2048]⟩
abbrev S8x8192 : Shape := ⟨2, ![8, 8192]⟩
abbrev S128x256 : Shape := ⟨2, ![128, 256]⟩

abbrev nBuf : Space → Nat
  | .hbm => 10
  | .vmem => 13
  | .smem => 0
  | _ => 0

abbrev bufTy : (tb : Table) → Fin (tcTables nBuf tb) → BufTy
  | .hbm, ⟨0, _⟩ => ⟨S120x8192, .f32⟩
  | .hbm, ⟨1, _⟩ => ⟨S120x8192, .f32⟩
  | .hbm, ⟨2, _⟩ => ⟨S8192, .f32⟩
  | .hbm, ⟨3, _⟩ => ⟨S8192x4096, .i8⟩
  | .hbm, ⟨4, _⟩ => ⟨S4096, .f32⟩
  | .hbm, ⟨5, _⟩ => ⟨S1x8192, .f32⟩
  | .hbm, ⟨6, _⟩ => ⟨S1x4096, .f32⟩
  | .hbm, ⟨7, _⟩ => ⟨S120x4096, .bf16⟩
  | .hbm, ⟨8, _⟩ => ⟨S120x8192, .i8⟩
  | .hbm, ⟨9, _⟩ => ⟨S120x1, .f32⟩
  | .local _ .vmem, ⟨0, _⟩ => ⟨S120x8192, .f32⟩
  | .local _ .vmem, ⟨1, _⟩ => ⟨S120x8192, .f32⟩
  | .local _ .vmem, ⟨2, _⟩ => ⟨S1x8192, .f32⟩
  | .local _ .vmem, ⟨3, _⟩ => ⟨S8192x256, .i8⟩
  | .local _ .vmem, ⟨4, _⟩ => ⟨S8192x256, .i8⟩
  | .local _ .vmem, ⟨5, _⟩ => ⟨S1x256, .f32⟩
  | .local _ .vmem, ⟨6, _⟩ => ⟨S1x256, .f32⟩
  | .local _ .vmem, ⟨7, _⟩ => ⟨S120x256, .bf16⟩
  | .local _ .vmem, ⟨8, _⟩ => ⟨S120x256, .bf16⟩
  | .local _ .vmem, ⟨9, _⟩ => ⟨S120x8192, .i8⟩
  | .local _ .vmem, ⟨10, _⟩ => ⟨S120x1, .f32⟩
  | .local _ .vmem, ⟨11, _⟩ => ⟨S128x8192, .bf16⟩
  | .local _ .vmem, ⟨12, _⟩ => ⟨S120x8192, .f32⟩
  | _, _ => ⟨S120x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S120x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S120x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S120x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S120x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefOutIdeal.lean ====
abbrev S120x8192 : Shape := ⟨2, ![120, 8192]⟩
abbrev S8192 : Shape := ⟨1, ![8192]⟩
abbrev S8192x4096 : Shape := ⟨2, ![8192, 4096]⟩
abbrev S4096 : Shape := ⟨1, ![4096]⟩
abbrev S_ : Shape := ⟨0, ![]⟩
abbrev S120x4x2048 : Shape := ⟨3, ![120, 4, 2048]⟩
abbrev S120x4 : Shape := ⟨2, ![120, 4]⟩
abbrev S120x4x1 : Shape := ⟨3, ![120, 4, 1]⟩
abbrev S1x8192 : Shape := ⟨2, ![1, 8192]⟩
abbrev S120 : Shape := ⟨1, ![120]⟩
abbrev S120x1 : Shape := ⟨2, ![120, 1]⟩
abbrev S120x4096 : Shape := ⟨2, ![120, 4096]⟩
abbrev S1x4096 : Shape := ⟨2, ![1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S120x8192, .f32⟩
  | .hbm, ⟨1, _⟩ => ⟨S120x8192, .f32⟩
  | .hbm, ⟨2, _⟩ => ⟨S8192, .f32⟩
  | .hbm, ⟨3, _⟩ => ⟨S8192x4096, .i8⟩
  | .hbm, ⟨4, _⟩ => ⟨S4096, .f32⟩
  | .hbm, ⟨5, _⟩ => ⟨S120x8192, .f32⟩
  | .hbm, ⟨6, _⟩ => ⟨S120x8192, .f32⟩
  | .hbm, ⟨7, _⟩ => ⟨S_, .f32⟩
  | .hbm, ⟨8, _⟩ => ⟨S120x8192, .f32⟩
  | .hbm, ⟨9, _⟩ => ⟨S120x8192, .f32⟩
  | .hbm, ⟨10, _⟩ => ⟨S_, .f32⟩
  | .hbm, ⟨11, _⟩ => ⟨S120x8192, .f32⟩
  | .hbm, ⟨12, _⟩ => ⟨S120x8192, .f32⟩
  | .hbm, ⟨13, _⟩ => ⟨S120x8192, .f32⟩
  | .hbm, ⟨14, _⟩ => ⟨S120x8192, .f32⟩
  | .hbm, ⟨15, _⟩ => ⟨S120x4x2048, .f32⟩
  | .hbm, ⟨16, _⟩ => ⟨S120x4x2048, .f32⟩
  | .hbm, ⟨17, _⟩ => ⟨S_, .f32⟩
  | .hbm, ⟨18, _⟩ => ⟨S120x4, .f32⟩
  | .hbm, ⟨19, _⟩ => ⟨S120x4x1, .f32⟩
  | .hbm, ⟨20, _⟩ => ⟨S_, .f32⟩
  | .hbm, ⟨21, _⟩ => ⟨S120x4x1, .f32⟩
  | .hbm, ⟨22, _⟩ => ⟨S120x4x1, .f32⟩
  | .hbm, ⟨23, _⟩ => ⟨S_, .f32⟩
  | .hbm, ⟨24, _⟩ => ⟨S120x4x1, .f32⟩
  | .hbm, ⟨25, _⟩ => ⟨S120x4x1, .f32⟩
  | .hbm, ⟨26, _⟩ => ⟨S120x4x1, .f32⟩
  | .hbm, ⟨27, _⟩ => ⟨S120x4x2048, .f32⟩
  | .hbm, ⟨28, _⟩ => ⟨S120x4x2048, .f32⟩
  | .hbm, ⟨29, _⟩ => ⟨S120x8192, .f32⟩
  | .hbm, ⟨30, _⟩ => ⟨S1x8192, .f32⟩
  | .hbm, ⟨31, _⟩ => ⟨S120x8192, .f32⟩
  | .hbm, ⟨32, _⟩ => ⟨S120x8192, .f32⟩
  | .hbm, ⟨33, _⟩ => ⟨S120x8192, .f32⟩
  | .hbm, ⟨34, _⟩ => ⟨S_, .f32⟩
  | .hbm, ⟨35, _⟩ => ⟨S120, .f32⟩
  | .hbm, ⟨36, _⟩ => ⟨S120x1, .f32⟩
  | .hbm, ⟨37, _⟩ => ⟨S_, .f32⟩
  | .hbm, ⟨38, _⟩ => ⟨S120x1, .f32⟩
  | .hbm, ⟨39, _⟩ => ⟨S120x1, .i1⟩
  | .hbm, ⟨40, _⟩ => ⟨S_, .f32⟩
  | .hbm, ⟨41, _⟩ => ⟨S120x1, .f32⟩
  | .hbm, ⟨42, _⟩ => ⟨S120x1, .f32⟩
  | .hbm, ⟨43, _⟩ => ⟨S_, .f32⟩
  | .hbm, ⟨44, _⟩ => ⟨S_, .f32⟩
  | .hbm, ⟨45, _⟩ => ⟨S120x1, .f32⟩
  | .hbm, ⟨46, _⟩ => ⟨S120x1, .f32⟩
  | .hbm, ⟨47, _⟩ => ⟨S120x8192, .f32⟩
  | .hbm, ⟨48, _⟩ => ⟨S120x8192, .f32⟩
  | .hbm, ⟨49, _⟩ => ⟨S120x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S120x8192, .f32⟩
  | .hbm, ⟨54, _⟩ => ⟨S120x8192, .f32⟩
  | .hbm, ⟨55, _⟩ => ⟨S_, .f32⟩
  | .hbm, ⟨56, _⟩ => ⟨S120x8192, .f32⟩
  | .hbm, ⟨57, _⟩ => ⟨S120x8192, .f32⟩
  | .hbm, ⟨58, _⟩ => ⟨S120x8192, .i32⟩
  | .hbm, ⟨59, _⟩ => ⟨S120x8192, .i8⟩
  | .hbm, ⟨60, _⟩ => ⟨S120, .f32⟩
  | .hbm, ⟨61, _⟩ => ⟨S120x8192, .i32⟩
  | .hbm, ⟨62, _⟩ => ⟨S120x8192, .f32⟩
  | .hbm, ⟨63, _⟩ => ⟨S120x8192, .bf16⟩
  | .hbm, ⟨64, _⟩ => ⟨S8192x4096, .i32⟩
  | .hbm, ⟨65, _⟩ => ⟨S8192x4096, .f32⟩
  | .hbm, ⟨66, _⟩ => ⟨S8192x4096, .bf16⟩
  | .hbm, ⟨67, _⟩ => ⟨S120x4096, .f32⟩
  | .hbm, ⟨68, _⟩ => ⟨S120x1, .f32⟩
  | .hbm, ⟨69, _⟩ => ⟨S120x4096, .f32⟩
  | .hbm, ⟨70, _⟩ => ⟨S120x4096, .f32⟩
  | .hbm, ⟨71, _⟩ => ⟨S1x4096, .f32⟩
  | .hbm, ⟨72, _⟩ => ⟨S120x4096, .f32⟩
  | .hbm, ⟨73, _⟩ => ⟨S120x4096, .f32⟩
  | .hbm, ⟨74, _⟩ => ⟨S120x4096, .bf16⟩
  | .hbm, ⟨75, _⟩ => ⟨S120x1, .f32⟩
  | _, _ => ⟨S120x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_cst_7 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Proof.InKit.lean ====
module

public import proofs.«01_k».proof.Proof.Gen.InIdeal.Frame
public import proofs.«01_k».proof.Proof.Gen.InIdeal.Skeleton
public import Idealize.ShloMosaic.Lib.Pipeline.Value

@[expose] public section

set_option maxRecDepth 16384

noncomputable section

namespace Cert.InIdeal.Hand

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The conditions of the body's four branches, from the grid coordinates. -/
abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1
/-- It holds at the first point only. -/
theorem hcond0_0 : ∀ t : Fin cfg0.N, cond0_0 (grid0.coords t) ↔ t.val = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val = 0)
/-- It holds at the sixteen gate points. -/
theorem hcond0_1 : ∀ t : Fin cfg0.N, cond0_1 (grid0.coords t) ↔ t.val < 16 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val < 16)
/-- It holds at the twenty convolution points. -/
theorem hcond0_2 : ∀ t : Fin cfg0.N, cond0_2 (grid0.coords t) ↔ 16 ≤ t.val ∧ t.val < 36 :=
  (fun t => by
    have ht : t.val < 37 := Nat.lt_of_lt_of_eq t.isLt N_0
    have e0 : (grid0.coords t 0).val = t.val / 1 % 37 := Pipeline.Grid.coords_val t 0 (by decide) rfl
    simp only [cond0_2, k0_cond3, e0]
    word_cmp
   : ∀ t : Fin grid0.N, cond0_2 (grid0.coords t) ↔ 16 ≤ t.val ∧ t.val < 36)
/-- It holds at the last point only. -/
theorem hcond0_3 : ∀ t : Fin cfg0.N, cond0_3 (grid0.coords t) ↔ t.val = 36 :=
  (fun t => by
    have ht : t.val < 37 := Nat.lt_of_lt_of_eq t.isLt N_0
    have e0 : (grid0.coords t 0).val = t.val / 1 % 37 := Pipeline.Grid.coords_val t 0 (by decide) rfl
    simp only [cond0_3, k0_cond4, e0]
    word_cmp
   : ∀ t : Fin grid0.N, cond0_3 (grid0.coords t) ↔ t.val = 36)

/-! ## The staging buffers and the scratch buffers -/

/-- Each window's current staging memref at point `t`. -/
abbrev ms0_0 (t : Fin cfg0.N) : Memref sig .tc .vmem S120x4096 .bf16 := win0_0.stage (cfg0.slots t 0)
abbrev ms0_1 (t : Fin cfg0.N) : Memref sig .tc .vmem S1x128 .i32 := win0_1.stage (cfg0.slots t 1)
abbrev ms0_2 (t : Fin cfg0.N) : Memref sig .tc .vmem S512x4096 .i8 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S3x153x512 .bf16 := win0_4.stage (cfg0.slots t 4)
abbrev ms0_5 (t : Fin cfg0.N) : Memref sig .tc .vmem S4x512 .f32 := win0_5.stage (cfg0.slots t 5)
abbrev ms0_6 (t : Fin cfg0.N) : Memref sig .tc .vmem S1x512 .f32 := win0_6.stage (cfg0.slots t 6)
abbrev ms0_7 (t : Fin cfg0.N) : Memref sig .tc .vmem S1x64 .f32 := win0_7.stage (cfg0.slots t 7)
abbrev ms0_8 (t : Fin cfg0.N) : Memref sig .tc .vmem S120x512 .f32 := win0_8.stage (cfg0.slots t 8)
abbrev ms0_9 (t : Fin cfg0.N) : Memref sig .tc .vmem S153x512 .f32 := win0_9.stage (cfg0.slots t 9)
abbrev ms0_10 (t : Fin cfg0.N) : Memref sig .tc .vmem S3x153x512 .bf16 := win0_10.stage (cfg0.slots t 10)
abbrev ms0_11 (t : Fin cfg0.N) : Memref sig .tc .vmem S120x64 .f32 := win0_11.stage (cfg0.slots t 11)
abbrev ms0_12 (t : Fin cfg0.N) : Memref sig .tc .vmem S120x4096 .i8 := win0_12.stage (cfg0.slots t 12)
abbrev ms0_13 (t : Fin cfg0.N) : Memref sig .tc .vmem S120x1 .f32 := win0_13.stage (cfg0.slots t 13)
abbrev ms0_14 (t : Fin cfg0.N) : Memref sig .tc .vmem S153x1 .i32 := win0_14.stage (cfg0.slots t 14)
/-- The scratch operands. -/
abbrev scM0_0 : Memref sig .tc .vmem S128x4096 .bf16 := Memref.whole cc0_scratch0
abbrev scM0_1 : Memref sig .tc .vmem S153x128 .bf16 := Memref.whole cc0_scratch1

/-- The kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves, as functions of the blocks it reads -/

theorem zz : (![0, 0] : Fin 2 → ℕ) = fun _ => 0 := by funext a; fin_cases a <;> rfl

/-- One store through the whole of a buffer leaves its payload, whatever was there. -/
theorem read_store_whole {sig : RefSig} {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) : v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- The two stores of the left operand of the product: eight zero rows under the codes of the rows. -/
def xbL (x : Vec F S120x4096 .bf16) : List (View.Piece (Elt F) S128x4096 .bf16) :=
  [⟨Rect.unit (s := S128x4096) ![120, 0] S8x4096.size inb_S128x4096_S8x4096_120_0, k0_pay14 (F := F)⟩,
   ⟨Rect.unit (s := S128x4096) ![0, 0] S120x4096.size inb_S128x4096_S120x4096_0_0, k0_pay13 x⟩]

/-- The left operand of the product. -/
def xbV (x : Vec F S120x4096 .bf16) : Vec F S128x4096 .bf16 := View.canon (xbL x)

theorem xbL_cover (x : Vec F S120x4096 .bf16) (y : S128x4096.Idx) : ∃ p ∈ xbL x, y ∈ p.1.set := by
  have h0 : (y 0).val < 128 := (y 0).isLt
  have h1 : (y 1).val < 4096 := (y 1).isLt
  by_cases h : (y 0).val < 120
  · refine ⟨⟨Rect.unit (s := S128x4096) ![0, 0] S120x4096.size inb_S128x4096_S120x4096_0_0, k0_pay13 x⟩, .tail _ (.head _), ?_⟩
    refine (Rect.mem_set_unit (inb := inb_S128x4096_S120x4096_0_0)).mpr fun a => ?_
    fin_cases a
    · exact ⟨Nat.zero_le _, by show (y 0).val < 0 + 120; omega⟩
    · exact ⟨Nat.zero_le _, by show (y 1).val < 0 + 4096; omega⟩
  · refine ⟨⟨Rect.unit (s := S128x4096) ![120, 0] S8x4096.size inb_S128x4096_S8x4096_120_0, k0_pay14 (F := F)⟩, .head _, ?_⟩
    refine (Rect.mem_set_unit (inb := inb_S128x4096_S8x4096_120_0)).mpr fun a => ?_
    fin_cases a
    · exact ⟨by show 120 ≤ (y 0).val; omega, by show (y 0).val < 120 + 8; omega⟩
    · exact ⟨Nat.zero_le _, by show (y 1).val < 0 + 4096; omega⟩

/-- The rectangle of one plane of a three-plane block. -/
abbrev rp (p : ℕ) (h : ∀ a, (![p, 0, 0] : Fin 3 → ℕ) a + S1x153x512.size a ≤ S3x153x512.size a) : Rect S3x153x512 :=
  Rect.unit (s := S3x153x512) ![p, 0, 0] S1x153x512.size h

/-- The three planes of the old convolution window. -/
abbrev pl0 (x : Vec F S3x153x512 .bf16) : Vec F S1x153x512 .bf16 := View.ld x (rp 0 inb_S3x153x512_S1x153x512_0_0_0)
abbrev pl1 (x : Vec F S3x153x512 .bf16) : Vec F S1x153x512 .bf16 := View.ld x (rp 1 inb_S3x153x512_S1x153x512_1_0_0)
abbrev pl2 (x : Vec F S3x153x512 .bf16) : Vec F S1x153x512 .bf16 := View.ld x (rp 2 inb_S3x153x512_S1x153x512_2_0_0)

/-- The four taps. -/
abbrev tp0 (w : Vec F S4x512 .f32) : Vec F S1x512 .f32 := View.ld w (Rect.unit (s := S4x512) ![0, 0] S1x512.size inb_S4x512_S1x512_0_0)
abbrev tp1 (w : Vec F S4x512 .f32) : Vec F S1x512 .f32 := View.ld w (Rect.unit (s := S4x512) ![1, 0] S1x512.size inb_S4x512_S1x512_1_0)
abbrev tp2 (w : Vec F S4x512 .f32) : Vec F S1x512 .f32 := View.ld w (Rect.unit (s := S4x512) ![2, 0] S1x512.size inb_S4x512_S1x512_2_0)
abbrev tp3 (w : Vec F S4x512 .f32) : Vec F S1x512 .f32 := View.ld w (Rect.unit (s := S4x512) ![3, 0] S1x512.size inb_S4x512_S1x512_3_0)

/-- The convolved block: of the product's block `z`, the selection `q`, the old window, the taps and the bias. -/
def xcV (z : FVec F S120x512 .f32) (q : Vec F S153x128 .bf16) (x : Vec F S3x153x512 .bf16) (w : Vec F S4x512 .f32)
    (b : Vec F S1x512 .f32) : Vec F S153x512 .f32 :=
  k0_pay4 (k0_pay22 (pl0 x) (pl1 x) (pl2 x) (tp0 w) (tp1 w) (tp2 w)) (k0_pay23 z q (tp3 w)) b

/-- The three stores of the new convolution window, the last first. -/
def csL (z : FVec F S120x512 .f32) (q : Vec F S153x128 .bf16) (v : Vec F S153x1 .i32) (x : Vec F S3x153x512 .bf16) :
    List (View.Piece (Elt F) S3x153x512 .bf16) :=
  [⟨rp 2 inb_S3x153x512_S1x153x512_2_0_0, k0_pay7 (k0_pay17 z q) (k0_pay18 v) (k0_pay21 (pl2 x))⟩,
   ⟨rp 1 inb_S3x153x512_S1x153x512_1_0_0, k0_pay6 (k0_pay18 v) (k0_pay20 (pl1 x)) (k0_pay21 (pl2 x))⟩,
   ⟨rp 0 inb_S3x153x512_S1x153x512_0_0_0, k0_pay5 (k0_pay18 v) (k0_pay19 (pl0 x)) (k0_pay20 (pl1 x))⟩]

/-- The new convolution window. -/
def csV (z : FVec F S120x512 .f32) (q : Vec F S153x128 .bf16) (v : Vec F S153x1 .i32) (x : Vec F S3x153x512 .bf16) :
    Vec F S3x153x512 .bf16 := View.canon (csL z q v x)

theorem csL_cover (z : FVec F S120x512 .f32) (q : Vec F S153x128 .bf16) (v : Vec F S153x1 .i32) (x : Vec F S3x153x512 .bf16)
    (y : S3x153x512.Idx) : ∃ p ∈ csL z q v x, y ∈ p.1.set :=
  View.cover_of_tiled (csL z q v x) S1x153x512.size (by rfl) y

end Cert.InIdeal.Hand

end
-- ==== Proof.InBodyA.lean ====
module

public import proofs.«01_k».proof.Proof.InKit

@[expose] public section

set_option maxRecDepth 16384

noncomputable section

namespace Cert.InIdeal.Hand

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the first point: the rows are quantised, the selection and the slots' owners are written, and the first block of the gate. -/
theorem kernelRun0_A (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : cond0_0 i) (hc1 : cond0_1 i) (hc2 : ¬ cond0_2 i) (hc3 : ¬ cond0_3 i)
    (a1 : Vec F S120x4096 .bf16) (a2 : Vec F S1x128 .i32) (a3 : Vec F S512x4096 .i8) (a4 : Vec F S1x512 .f32) :
      ∀ (E : Set ℕ) (K : PUnit → sProp 𝕄),
        iprop(owns (c : Thread nD τ) arg1 fullShare a1 ∗ owns (c : Thread nD τ) arg2 fullShare a2 ∗ owns (c : Thread nD τ) arg3 fullShare a3 ∗ owns (c : Thread nD τ) arg4 fullShare a4 ∗ (∃ d, owns (c : Thread nD τ) arg9 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare a1 ∗ owns (c : Thread nD τ) arg2 fullShare a2 ∗ owns (c : Thread nD τ) arg3 fullShare a3 ∗ owns (c : Thread nD τ) arg4 fullShare a4 ∗ owns (c : Thread nD τ) arg9 fullShare (k0_pay3 a3 (xbV a1) (k0_pay10 a1) a4) ∗ owns (c : Thread nD τ) arg13 fullShare (k0_pay12 a1) ∗ owns (c : Thread nD τ) arg14 fullShare (k0_pay10 a1) ∗ owns (c : Thread nD τ) arg15 fullShare (k0_pay2 (k0_pay15 a2)) ∗ owns (c : Thread nD τ) arg16 fullShare (xbV a1) ∗ owns (c : Thread nD τ) arg17 fullShare (k0_pay1 (k0_pay16 a2))) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%d9, %f9, -, H9⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4
    sl_exec (disch := first | sl_exact hc0 | sl_exact hc1 | sl_exact hc2 | sl_exact hc3)
    sl_step
    have e1 : View.readAt (Elt F) arg1.view (Rect.unit ![0, 0] ![120, 4096] inb_S120x4096_S120x4096_0_0).toLoadRect (harg1.unread a1) = a1 := by
      rw [View.readAt_eq_ld, harg1.read_unread]; exact View.ld_unit_zero zz inb_S120x4096_S120x4096_0_0 a1
    have e2 : View.readAt (Elt F) arg2.view (Rect.unit ![0, 0] ![1, 128] inb_S1x128_S1x128_0_0).toLoadRect (harg2.unread a2) = a2 := by
      rw [View.readAt_eq_ld, harg2.read_unread]; exact View.ld_unit_zero zz inb_S1x128_S1x128_0_0 a2
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e1' : View.readAt (Elt F) arg1.view (Rect.unit ![0, 0] S120x4096.size inb_S120x4096_S120x4096_0_0).toLoadRect (harg1.unread a1) = a1 := e1
    have e2' : View.readAt (Elt F) arg2.view (Rect.unit ![0, 0] S1x128.size inb_S1x128_S1x128_0_0).toLoadRect (harg2.unread a2) = a2 := e2
    have hB : kernelRun0_A.sl.H16_2 c arg1 harg1 a1 = xbL a1 := by
      unfold kernelRun0_A.sl.H16_2; rw [e1']; rfl
    have h7 : kernelRun0_A.sl.v7 c arg1 harg1 arg16 a1 = xbV a1 := by
      unfold kernelRun0_A.sl.v7
      rw [hB, View.readCov_eq_canon']
      exact View.ld_unit_zero zz inb_S128x4096_S128x4096_0_0 (View.canon (xbL a1))
    have h14 : kernelRun0_A.sl.H14_1 c arg1 harg1 a1
        = [⟨Rect.unit ![0, 0] S120x1.size inb_S120x1_S120x1_0_0, k0_pay10 a1⟩] := by
      unfold kernelRun0_A.sl.H14_1; rw [e1']
    have h10 : kernelRun0_A.sl.v10 c arg1 harg1 arg14 a1 = k0_pay10 a1 := by
      unfold kernelRun0_A.sl.v10
      rw [h14]; exact View.readCov_unit_zero arg14.view zz inb_S120x1_S120x1_0_0 _
    have hr : kernelRun0_A.sl.r c arg2 harg2 a2 = k0_pay15 a2 := by
      unfold kernelRun0_A.sl.r; rw [e2']
    have hr1 : kernelRun0_A.sl.r_1 c arg2 harg2 a2 = k0_pay16 a2 := by
      unfold kernelRun0_A.sl.r_1; rw [e2']
    rw [e1', e3, e4, h7, h10, h14, hr, hB, hr1]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H9]
    · iexists _; isplitr; swap; · iexact H9
      ipureintro
      exact read_store_whole arg9.view f9 zz inb_S120x512_S120x512_0_0 _
    isplitl [H13]
    · iexists _; isplitr; swap; · iexact H13
      ipureintro
      exact read_store_whole arg13.view f13 zz inb_S120x4096_S120x4096_0_0 _
    isplitl [H14]
    · iexists _; isplitr; swap; · iexact H14
      ipureintro
      exact read_store_whole arg14.view f14 zz inb_S120x1_S120x1_0_0 _
    isplitl [H15]
    · iexists _; isplitr; swap; · iexact H15
      ipureintro
      exact read_store_whole arg15.view f15 zz inb_S153x1_S153x1_0_0 _
    isplitl [H16]
    · iexists _; isplitr; swap; · iexact H16
      ipureintro
      exact View.read_writes_eq_canon arg16.view f16 _ (xbL_cover a1)
    iexists _; isplitr; swap; · iexact H17
    ipureintro
    exact read_store_whole arg17.view f17 zz inb_S153x128_S153x128_0_0 _

end Cert.InIdeal.Hand

end
-- ==== Proof.InBodyB.lean ====
module

public import proofs.«01_k».proof.Proof.InKit

@[expose] public section

set_option maxRecDepth 16384

noncomputable section

namespace Cert.InIdeal.Hand

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the other gate points: a block of the gate. -/
theorem kernelRun0_B (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : ¬ cond0_0 i) (hc1 : cond0_1 i) (hc2 : ¬ cond0_2 i) (hc3 : ¬ cond0_3 i)
    (a3 : Vec F S512x4096 .i8) (a4 : Vec F S1x512 .f32) (a14 : Vec F S120x1 .f32) (a16 : Vec F S128x4096 .bf16) :
      ∀ (E : Set ℕ) (K : PUnit → sProp 𝕄),
        iprop(owns (c : Thread nD τ) arg3 fullShare a3 ∗ owns (c : Thread nD τ) arg4 fullShare a4 ∗ owns (c : Thread nD τ) arg14 fullShare a14 ∗ owns (c : Thread nD τ) arg16 fullShare a16 ∗ (∃ d, owns (c : Thread nD τ) arg9 fullShare d)
            ∗ (iprop(owns (c : Thread nD τ) arg3 fullShare a3 ∗ owns (c : Thread nD τ) arg4 fullShare a4 ∗ owns (c : Thread nD τ) arg14 fullShare a14 ∗ owns (c : Thread nD τ) arg16 fullShare a16 ∗ owns (c : Thread nD τ) arg9 fullShare (k0_pay3 a3 a16 a14 a4)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f14, %hf14, H14⟩, ⟨%f16, %hf16, H16⟩, ⟨%d9, %f9, -, H9⟩, Hk⟩
    obtain rfl := harg3.eq_unread hf3; obtain rfl := harg4.eq_unread hf4; obtain rfl := harg14.eq_unread hf14; obtain rfl := harg16.eq_unread hf16
    sl_exec (disch := first | sl_exact hc0 | sl_exact hc1 | sl_exact hc2 | sl_exact hc3)
    sl_step
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e14 : View.readAt (Elt F) arg14.view (Rect.unit ![0, 0] ![120, 1] inb_S120x1_S120x1_0_0).toLoadRect (harg14.unread a14) = a14 := by
      rw [View.readAt_eq_ld, harg14.read_unread]; exact View.ld_unit_zero zz inb_S120x1_S120x1_0_0 a14
    have e16 : View.readAt (Elt F) arg16.view (Rect.unit ![0, 0] ![128, 4096] inb_S128x4096_S128x4096_0_0).toLoadRect (harg16.unread a16) = a16 := by
      rw [View.readAt_eq_ld, harg16.read_unread]; exact View.ld_unit_zero zz inb_S128x4096_S128x4096_0_0 a16
    rw [e3, e4, e14, e16]
    iapply Hk
    isplitl [H3]
    · iexists _; isplitr; · ipureintro; exact harg3.read_unread _
      iexact H3
    isplitl [H4]
    · iexists _; isplitr; · ipureintro; exact harg4.read_unread _
      iexact H4
    isplitl [H14]
    · iexists _; isplitr; · ipureintro; exact harg14.read_unread _
      iexact H14
    isplitl [H16]
    · iexists _; isplitr; · ipureintro; exact harg16.read_unread _
      iexact H16
    iexists _; isplitr; swap; · iexact H9
    ipureintro
    exact read_store_whole arg9.view f9 zz inb_S120x512_S120x512_0_0 _

end Cert.InIdeal.Hand

end
-- ==== Proof.InBodyC.lean ====
module

public import proofs.«01_k».proof.Proof.InKit

@[expose] public section

set_option maxRecDepth 16384

noncomputable section

namespace Cert.InIdeal.Hand

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the convolution points: a block of the convolved rows, and of the new convolution window. -/
theorem kernelRun0_C (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : ¬ cond0_0 i) (hc1 : ¬ cond0_1 i) (hc2 : cond0_2 i) (hc3 : ¬ cond0_3 i)
    (a3 : Vec F S512x4096 .i8) (a4 : Vec F S1x512 .f32) (a5 : Vec F S3x153x512 .bf16) (a6 : Vec F S4x512 .f32) (a7 : Vec F S1x512 .f32) (a14 : Vec F S120x1 .f32) (a15 : Vec F S153x1 .i32) (a16 : Vec F S128x4096 .bf16) (a17 : Vec F S153x128 .bf16) :
      ∀ (E : Set ℕ) (K : PUnit → sProp 𝕄),
        iprop(owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7 ∗ owns (c : Thread nD τ) arg14 fullShare a14 ∗ owns (c : Thread nD τ) arg15 fullShare a15 ∗ owns (c : Thread nD τ) arg16 fullShare a16 ∗ owns (c : Thread nD τ) arg17 fullShare a17 ∗ (∃ d, owns (c : Thread nD τ) arg10 fullShare d) ∗ (∃ d, owns (c : Thread nD τ) arg11 fullShare d)
            ∗ (iprop(owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7 ∗ owns (c : Thread nD τ) arg14 fullShare a14 ∗ owns (c : Thread nD τ) arg15 fullShare a15 ∗ owns (c : Thread nD τ) arg16 fullShare a16 ∗ owns (c : Thread nD τ) arg17 fullShare a17 ∗ owns (c : Thread nD τ) arg10 fullShare (xcV (k0_pay3 a3 a16 a14 a4) a17 a5 a6 a7) ∗ owns (c : Thread nD τ) arg11 fullShare (csV (k0_pay3 a3 a16 a14 a4) a17 a15 a5)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f14, %hf14, H14⟩, ⟨%f15, %hf15, H15⟩, ⟨%f16, %hf16, H16⟩, ⟨%f17, %hf17, H17⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6; obtain rfl := harg7.eq_unread hf7; obtain rfl := harg14.eq_unread hf14; obtain rfl := harg15.eq_unread hf15; obtain rfl := harg16.eq_unread hf16; obtain rfl := harg17.eq_unread hf17
    sl_exec (disch := first | sl_exact hc0 | sl_exact hc1 | sl_exact hc2 | sl_exact hc3)
    sl_step
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e5 : ∀ r : Rect S3x153x512, View.readAt (Elt F) arg5.view r.toLoadRect (harg5.unread a5) = View.ld a5 r :=
      fun r => by rw [View.readAt_eq_ld, harg5.read_unread]
    have e6 : ∀ r : Rect S4x512, View.readAt (Elt F) arg6.view r.toLoadRect (harg6.unread a6) = View.ld a6 r :=
      fun r => by rw [View.readAt_eq_ld, harg6.read_unread]
    have e7 : View.readAt (Elt F) arg7.view (Rect.unit ![0, 0] ![1, 512] inb_S1x512_S1x512_0_0).toLoadRect (harg7.unread a7) = a7 := by
      rw [View.readAt_eq_ld, harg7.read_unread]; exact View.ld_unit_zero zz inb_S1x512_S1x512_0_0 a7
    have e14 : View.readAt (Elt F) arg14.view (Rect.unit ![0, 0] ![120, 1] inb_S120x1_S120x1_0_0).toLoadRect (harg14.unread a14) = a14 := by
      rw [View.readAt_eq_ld, harg14.read_unread]; exact View.ld_unit_zero zz inb_S120x1_S120x1_0_0 a14
    have e15 : View.readAt (Elt F) arg15.view (Rect.unit ![0, 0] ![153, 1] inb_S153x1_S153x1_0_0).toLoadRect (harg15.unread a15) = a15 := by
      rw [View.readAt_eq_ld, harg15.read_unread]; exact View.ld_unit_zero zz inb_S153x1_S153x1_0_0 a15
    have e16 : View.readAt (Elt F) arg16.view (Rect.unit ![0, 0] ![128, 4096] inb_S128x4096_S128x4096_0_0).toLoadRect (harg16.unread a16) = a16 := by
      rw [View.readAt_eq_ld, harg16.read_unread]; exact View.ld_unit_zero zz inb_S128x4096_S128x4096_0_0 a16
    have e17 : View.readAt (Elt F) arg17.view (Rect.unit ![0, 0] ![153, 128] inb_S153x128_S153x128_0_0).toLoadRect (harg17.unread a17) = a17 := by
      rw [View.readAt_eq_ld, harg17.read_unread]; exact View.ld_unit_zero zz inb_S153x128_S153x128_0_0 a17
    unfold kernelRun0_C.sl.r kernelRun0_C.sl.r_1 kernelRun0_C.sl.r_2 kernelRun0_C.sl.r_3 kernelRun0_C.sl.r_4 kernelRun0_C.sl.r_5 kernelRun0_C.sl.r_6
    simp only [e3, e4, e5, e6, e7, e14, e15, e16, e17]
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H10]
    · iexists _; isplitr; swap; · iexact H10
      ipureintro
      exact read_store_whole arg10.view f10 zz inb_S153x512_S153x512_0_0 _
    iexists _; isplitr; swap; · iexact H11
    ipureintro
    exact View.read_writes_eq_canon arg11.view f11 _ (csL_cover (k0_pay3 a3 a16 a14 a4) a17 a15 a5)

end Cert.InIdeal.Hand

end
-- ==== Proof.InBodyD.lean ====
module

public import proofs.«01_k».proof.Proof.InKit

@[expose] public section

set_option maxRecDepth 16384

noncomputable section

namespace Cert.InIdeal.Hand

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the last point: the time steps. -/
theorem kernelRun0_D (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : ¬ cond0_0 i) (hc1 : ¬ cond0_1 i) (hc2 : ¬ cond0_2 i) (hc3 : cond0_3 i)
    (a3 : Vec F S512x4096 .i8) (a4 : Vec F S1x512 .f32) (a8 : Vec F S1x64 .f32) (a14 : Vec F S120x1 .f32) (a16 : Vec F S128x4096 .bf16) :
      ∀ (E : Set ℕ) (K : PUnit → sProp 𝕄),
        iprop(owns (c : Thread nD τ) arg3 fullShare a3 ∗ owns (c : Thread nD τ) arg4 fullShare a4 ∗ owns (c : Thread nD τ) arg8 fullShare a8 ∗ owns (c : Thread nD τ) arg14 fullShare a14 ∗ owns (c : Thread nD τ) arg16 fullShare a16 ∗ (∃ d, owns (c : Thread nD τ) arg12 fullShare d)
            ∗ (iprop(owns (c : Thread nD τ) arg3 fullShare a3 ∗ owns (c : Thread nD τ) arg4 fullShare a4 ∗ owns (c : Thread nD τ) arg8 fullShare a8 ∗ owns (c : Thread nD τ) arg14 fullShare a14 ∗ owns (c : Thread nD τ) arg16 fullShare a16 ∗ owns (c : Thread nD τ) arg12 fullShare (k0_pay8 a3 a16 a14 a4 a8)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f8, %hf8, H8⟩, ⟨%f14, %hf14, H14⟩, ⟨%f16, %hf16, H16⟩, ⟨%d12, %f12, -, H12⟩, Hk⟩
    obtain rfl := harg3.eq_unread hf3; obtain rfl := harg4.eq_unread hf4; obtain rfl := harg8.eq_unread hf8; obtain rfl := harg14.eq_unread hf14; obtain rfl := harg16.eq_unread hf16
    sl_exec (disch := first | sl_exact hc0 | sl_exact hc1 | sl_exact hc2 | sl_exact hc3)
    sl_step
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e8 : View.readAt (Elt F) arg8.view (Rect.unit ![0, 0] ![1, 64] inb_S1x64_S1x64_0_0).toLoadRect (harg8.unread a8) = a8 := by
      rw [View.readAt_eq_ld, harg8.read_unread]; exact View.ld_unit_zero zz inb_S1x64_S1x64_0_0 a8
    have e14 : View.readAt (Elt F) arg14.view (Rect.unit ![0, 0] ![120, 1] inb_S120x1_S120x1_0_0).toLoadRect (harg14.unread a14) = a14 := by
      rw [View.readAt_eq_ld, harg14.read_unread]; exact View.ld_unit_zero zz inb_S120x1_S120x1_0_0 a14
    have e16 : View.readAt (Elt F) arg16.view (Rect.unit ![0, 0] ![128, 4096] inb_S128x4096_S128x4096_0_0).toLoadRect (harg16.unread a16) = a16 := by
      rw [View.readAt_eq_ld, harg16.read_unread]; exact View.ld_unit_zero zz inb_S128x4096_S128x4096_0_0 a16
    rw [e3, e4, e8, e14, e16]
    iapply Hk
    isplitl [H3]
    · iexists _; isplitr; · ipureintro; exact harg3.read_unread _
      iexact H3
    isplitl [H4]
    · iexists _; isplitr; · ipureintro; exact harg4.read_unread _
      iexact H4
    isplitl [H8]
    · iexists _; isplitr; · ipureintro; exact harg8.read_unread _
      iexact H8
    isplitl [H14]
    · iexists _; isplitr; · ipureintro; exact harg14.read_unread _
      iexact H14
    isplitl [H16]
    · iexists _; isplitr; · ipureintro; exact harg16.read_unread _
      iexact H16
    iexists _; isplitr; swap; · iexact H12
    ipureintro
    exact read_store_whole arg12.view f12 zz inb_S120x64_S120x64_0_0 _

end Cert.InIdeal.Hand

end
-- ==== Proof.InRun.lean ====
module

public import proofs.«01_k».proof.Proof.InBodyA
public import proofs.«01_k».proof.Proof.InBodyB
public import proofs.«01_k».proof.Proof.InBodyC
public import proofs.«01_k».proof.Proof.InBodyD
public import Idealize.ShloMosaic.Lib.Pointwise
public import Idealize.ShloMosaic.Lib.Pipeline.ValueKit
public import Idealize.ShloMosaic.Lib.Claim
public import Idealize.ShloMosaic.Lib.Pipeline.TableIdle

@[expose] public section

set_option maxRecDepth 16384

noncomputable section

namespace Cert.InIdeal.Hand

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What each buffer holds -/

/-- The first point, and the last. -/
def t0 : Fin cfg0.N := ⟨0, Nat.lt_of_lt_of_eq (by decide) N_0.symm⟩
def t36 : Fin cfg0.N := ⟨36, Nat.lt_of_lt_of_eq (by decide) N_0.symm⟩

/-- The gate point whose block a point's gate buffer holds, -/
def p8 (t : Fin cfg0.N) : Fin cfg0.N := ⟨min t.val 15, lt_of_le_of_lt (Nat.min_le_left _ _) t.isLt⟩
/-- and the convolution point whose blocks its convolution buffers hold. -/
def p9 (t : Fin cfg0.N) : Fin cfg0.N := ⟨min (max t.val 16) 35, by have := N_0; show _ < grid0.N; rw [N_0]; omega⟩

/-- The left operand of the product, the rows' scales, the codes, the slots' owners and the selection: kept from the first point on. -/
def xbA (c : Dev nD) : Vec Ideal S128x4096 .bf16 := xbV (F := Ideal) (iblk m c 0 t0)
def scA (c : Dev nD) : Vec Ideal S120x1 .f32 := k0_pay10 (F := Ideal) (iblk m c 0 t0)
def cdA (c : Dev nD) : Vec Ideal S120x4096 .i8 := k0_pay12 (F := Ideal) (iblk m c 0 t0)
def ivA (c : Dev nD) : Vec Ideal S153x1 .i32 := k0_pay2 (k0_pay15 (F := Ideal) (iblk m c 1 t0))
def slA (c : Dev nD) : Vec Ideal S153x128 .bf16 := k0_pay1 (F := Ideal) (k0_pay16 (F := Ideal) (iblk m c 1 t0))

/-- The weight's block and the scales' block at a point, filled out with zeros where the last one overhangs the array. -/
def wA (c : Dev nD) (t : Fin cfg0.N) : Vec Ideal S512x4096 .i8 := win0_2.fill (grid0.coords t) (fun _ => (0#8 : BitVec 8)) (iblk m c 2 t)
def wsA (c : Dev nD) (t : Fin cfg0.N) : Vec Ideal S1x512 .f32 := win0_3.fill (grid0.coords t) (fun _ => (0 : EReal)) (iblk m c 3 t)

/-- The point's block of the rescaled product. -/
def zA (c : Dev nD) (t : Fin cfg0.N) : Vec Ideal S120x512 .f32 := k0_pay3 (F := Ideal) (wA m c t) (xbA m c) (scA m c) (wsA m c t)
/-- The point's block of the convolved rows, and of the new window. -/
def xcA (c : Dev nD) (t : Fin cfg0.N) : Vec Ideal S153x512 .f32 := xcV (F := Ideal) (zA m c t) (slA m c) (iblk m c 4 t) (iblk m c 5 t) (iblk m c 6 t)
def csA (c : Dev nD) (t : Fin cfg0.N) : Vec Ideal S3x153x512 .bf16 := csV (F := Ideal) (zA m c t) (slA m c) (ivA m c) (iblk m c 4 t)
/-- The time steps. -/
def dtA (c : Dev nD) : Vec Ideal S120x64 .f32 := k0_pay8 (F := Ideal) (wA m c t36) (xbA m c) (scA m c) (wsA m c t36) (iblk m c 7 t36)

/-! ## The pipeline's proof data -/

/-- What holds between points: the scratch buffers at anything before the first, and from then on the left operand and the
    selection in them. -/
def PhiT (c : Dev nD) (n : ℕ) : sProp 𝕄 :=
  if n = 0 then Pipeline.ΦA spec0 c
  else iprop(iprop(owns (c : Thread nD τ) scM0_0 fullShare (xbA m c) ∗ owns (c : Thread nD τ) scM0_1 fullShare (slA m c)) ∗ (∃ r, prngReg c r))

/-- The proof data: the inputs at their blocks, each result's buffer at the block it was last given. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wA m c t
    | ⟨3, _⟩ => wsA m c t
    | ⟨4, _⟩ => iblk m c 4 t
    | ⟨5, _⟩ => iblk m c 5 t
    | ⟨6, _⟩ => iblk m c 6 t
    | ⟨7, _⟩ => iblk m c 7 t
    | ⟨8, _⟩ => zA m c (p8 t)
    | ⟨9, _⟩ => xcA m c (p9 t)
    | ⟨10, _⟩ => csA m c (p9 t)
    | ⟨11, _⟩ => dtA m c
    | ⟨12, _⟩ => cdA m c
    | ⟨13, _⟩ => scA m c
    | ⟨14, _⟩ => ivA m c
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wA m c t := by dsimp only [dats]
theorem after0_3 (c : Dev nD) (t : Fin cfg0.N) : (dats m 0 c).after 3 t = wsA m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = zA m c (p8 t) := by dsimp only [dats]
theorem after0_9 (c : Dev nD) (t : Fin cfg0.N) : (dats m 0 c).after 9 t = xcA m c (p9 t) := by dsimp only [dats]
theorem after0_10 (c : Dev nD) (t : Fin cfg0.N) : (dats m 0 c).after 10 t = csA m c (p9 t) := by dsimp only [dats]
theorem after0_11 (c : Dev nD) (t : Fin cfg0.N) : (dats m 0 c).after 11 t = dtA m c := by dsimp only [dats]
theorem after0_12 (c : Dev nD) (t : Fin cfg0.N) : (dats m 0 c).after 12 t = cdA m c := by dsimp only [dats]
theorem after0_13 (c : Dev nD) (t : Fin cfg0.N) : (dats m 0 c).after 13 t = scA m c := by dsimp only [dats]
theorem after0_14 (c : Dev nD) (t : Fin cfg0.N) : (dats m 0 c).after 14 t = ivA m c := by dsimp only [dats]

theorem Phi_zero (c : Dev nD) : PhiT m c 0 = Pipeline.ΦA spec0 c := if_pos rfl
theorem Phi_pos (c : Dev nD) {n : ℕ} (h : n ≠ 0) : PhiT m c n
    = iprop(iprop(owns (c : Thread nD τ) scM0_0 fullShare (xbA m c) ∗ owns (c : Thread nD τ) scM0_1 fullShare (slA m c)) ∗ (∃ r, prngReg c r)) :=
  if_neg h

/-! ## What the body finds -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]

/-- Before the last point no block overhangs, so what was in the buffer does not show. -/
theorem noclip2 : ∀ t : Fin cfg0.N, t.val < 36 → ∀ a, (cfg0.win 2).clip (cfg0.grid.coords t) a = none :=
  (by decide +kernel : ∀ t : Fin grid0.N, t.val < 36 → ∀ a, win0_2.clip (grid0.coords t) a = none)
theorem noclip3 : ∀ t : Fin cfg0.N, t.val < 36 → ∀ a, (cfg0.win 3).clip (cfg0.grid.coords t) a = none :=
  (by decide +kernel : ∀ t : Fin grid0.N, t.val < 36 → ∀ a, win0_3.clip (grid0.coords t) a = none)

theorem fill2 (c : Dev nD) (t : Fin cfg0.N) (h : t.val < 36) (d) : win0_2.fill (grid0.coords t) d (iblk m c 2 t) = wA m c t :=
  Pipeline.fill_of_clip_none (cfg := cfg0) 2 (cfg0.grid.coords t) (noclip2 t h) _ _ _
theorem fill3 (c : Dev nD) (t : Fin cfg0.N) (h : t.val < 36) (d) : win0_3.fill (grid0.coords t) d (iblk m c 3 t) = wsA m c t :=
  Pipeline.fill_of_clip_none (cfg := cfg0) 3 (cfg0.grid.coords t) (noclip3 t h) _ _ _

/-- At the last point the first sixty-four rows (columns) are the array's. -/
theorem xs2 : ∀ t : Fin cfg0.N, t.val = 36 → ∀ a, (![64, 4096] : Fin 2 → ℕ) a ≤ win0_2.xsize (grid0.coords t) a :=
  (by decide +kernel : ∀ t : Fin grid0.N, t.val = 36 → ∀ a, (![64, 4096] : Fin 2 → ℕ) a ≤ win0_2.xsize (grid0.coords t) a)
theorem xs3 : ∀ t : Fin cfg0.N, t.val = 36 → ∀ a, (![1, 64] : Fin 2 → ℕ) a ≤ win0_3.xsize (grid0.coords t) a :=
  (by decide +kernel : ∀ t : Fin grid0.N, t.val = 36 → ∀ a, (![1, 64] : Fin 2 → ℕ) a ≤ win0_3.xsize (grid0.coords t) a)

theorem fill2_row (t : Fin cfg0.N) (h : t.val = 36) (d d' : S512x4096.Idx → BitVec 8) (g) (k : Fin 512) (hk : k.val < 64) (x : Fin 4096) :
    win0_2.fill (grid0.coords t) d g (ix2 k x) = win0_2.fill (grid0.coords t) d' g (ix2 k x) := by
  have hm : win0_2.moved (grid0.coords t) (ix2 k x) = true := (win0_2.moved_iff _ _).mpr fun a =>
    lt_of_lt_of_le (by fin_cases a; exacts [hk, x.isLt]) (xs2 t h a)
  unfold Window.fill; rw [dif_pos hm, dif_pos hm]
theorem fill3_col (t : Fin cfg0.N) (h : t.val = 36) (d d' : S1x512.Idx → EReal) (g) (k : Fin 512) (hk : k.val < 64) (x : Fin 1) :
    win0_3.fill (grid0.coords t) d g (ix2 x k) = win0_3.fill (grid0.coords t) d' g (ix2 x k) := by
  have hm : win0_3.moved (grid0.coords t) (ix2 x k) = true := (win0_3.moved_iff _ _).mpr fun a =>
    lt_of_lt_of_le (by fin_cases a; exacts [x.isLt, hk]) (xs3 t h a)
  unfold Window.fill; rw [dif_pos hm, dif_pos hm]

/-- The rescaled product at an entry. -/
theorem pay3_apply (w : IVec S512x4096 8) (x : FVec Ideal S128x4096 .bf16) (s : FVec Ideal S120x1 .f32) (u : FVec Ideal S1x512 .f32)
    (r : Fin 120) (k : Fin 512) : k0_pay3 (F := Ideal) w x s u (ix2 r k)
      = (∑ y : Fin 4096, x (ix2 (⟨r.val, by omega⟩ : Fin 128) y) * (FloatOps.sitofp (F := Ideal) .bf16 (w (ix2 k y)) : EReal)) * s (ix2 r (0 : Fin 1)) * u (ix2 (0 : Fin 1) k) := by
  unfold k0_pay3
  pointwise

/-- The time steps read the product's first sixty-four columns only. -/
theorem pay8_congr (w w' : IVec S512x4096 8) (x : FVec Ideal S128x4096 .bf16) (s : FVec Ideal S120x1 .f32) (u u' : FVec Ideal S1x512 .f32)
    (b : FVec Ideal S1x64 .f32) (hw : ∀ (k : Fin 512) (hk : k.val < 64) (y : Fin 4096), w (ix2 k y) = w' (ix2 k y))
    (hu : ∀ (k : Fin 512) (hk : k.val < 64) (y : Fin 1), u (ix2 y k) = u' (ix2 y k)) :
    k0_pay8 (F := Ideal) w x s u b = k0_pay8 (F := Ideal) w' x s u' b := by
  have e : extractStridedSlice S120x64 ![0, 0] (k0_pay3 (F := Ideal) w x s u) slices_S120x512_o0_0_S120x64
      = extractStridedSlice S120x64 ![0, 0] (k0_pay3 (F := Ideal) w' x s u') slices_S120x512_o0_0_S120x64 := by
    funext j
    idx_vars j
    pointwise
    rw [pay3_apply, pay3_apply]
    simp only [hu _ (show (⟨j1.val, _⟩ : Fin 512).val < 64 from j1.isLt), hw _ (show (⟨j1.val, _⟩ : Fin 512).val < 64 from j1.isLt)]
  unfold k0_pay8
  rw [e]

theorem N37 : cfg0.N = 37 := N_0

/-! ## The results' buffers through the points that do not store -/

theorem idle_false {b : BitVec 1} (h : b = 1#1) : (!(b == 1#1)) = false := by subst h; rfl
theorem idle_true {b : BitVec 1} (h : ¬ b = 1#1) : (!(b == 1#1)) = true := by simp [h]

theorem fresh8 : ∀ n, n ≤ cfg0.N → cfg0.fresh 8 n = (fun n => decide (n ≤ 15) || n == 37) n :=
  Pipeline.Cfg.fresh_tab (cfg := cfg0) 8 (fun n => decide (n ≤ 15) || n == 37) rfl (by decide +kernel)
theorem fresh9 : ∀ n, n ≤ cfg0.N → cfg0.fresh 9 n = (fun n => decide (n ≤ 35) || n == 37) n :=
  Pipeline.Cfg.fresh_tab (cfg := cfg0) 9 (fun n => decide (n ≤ 35) || n == 37) rfl (by decide +kernel)
theorem fresh10 : ∀ n, n ≤ cfg0.N → cfg0.fresh 10 n = (fun n => decide (n ≤ 35) || n == 37) n :=
  Pipeline.Cfg.fresh_tab (cfg := cfg0) 10 (fun n => decide (n ≤ 35) || n == 37) rfl (by decide +kernel)
theorem fresh12 : ∀ n, n ≤ cfg0.N → cfg0.fresh 12 n = (fun n => n == 0 || n == 37) n :=
  Pipeline.Cfg.fresh_tab (cfg := cfg0) 12 (fun n => n == 0 || n == 37) rfl (by decide +kernel)
theorem fresh13 : ∀ n, n ≤ cfg0.N → cfg0.fresh 13 n = (fun n => n == 0 || n == 37) n :=
  Pipeline.Cfg.fresh_tab (cfg := cfg0) 13 (fun n => n == 0 || n == 37) rfl (by decide +kernel)
theorem fresh14 : ∀ n, n ≤ cfg0.N → cfg0.fresh 14 n = (fun n => n == 0 || n == 37) n :=
  Pipeline.Cfg.fresh_tab (cfg := cfg0) 14 (fun n => n == 0 || n == 37) rfl (by decide +kernel)
theorem before0_8 (c : Dev nD) (t : Fin cfg0.N) (ht : 15 < t.val) (d) : (dats m 0 c).before 8 t d = (dats m 0 c).after 8 t := by
  have hN := Nat.lt_of_lt_of_eq t.isLt N37
  rw [(dats m 0 c).before_out_traj 8 rfl (fun _ _ => rfl) (fun t ht hi hf => by
      rw [fresh8 t.val t.isLt.le] at hf
      have hN := Nat.lt_of_lt_of_eq t.isLt N37
      rw [after0_8, after0_8]
      refine congrArg (zA m c) (Fin.ext ?_)
      simp only [Bool.or_eq_false_iff, decide_eq_false_iff_not, beq_eq_false_iff_ne] at hf
      simp only [p8]; omega) t.val t rfl d,
    fresh8 t.val t.isLt.le, if_neg (by simp only [Bool.or_eq_true, decide_eq_true_eq, beq_iff_eq]; omega), after0_8, after0_8]
  refine congrArg (zA m c) (Fin.ext ?_)
  simp only [p8]; omega
theorem before0_9 (c : Dev nD) (t : Fin cfg0.N) (ht : 35 < t.val) (d) : (dats m 0 c).before 9 t d = (dats m 0 c).after 9 t := by
  have hN := Nat.lt_of_lt_of_eq t.isLt N37
  rw [(dats m 0 c).before_out_traj 9 rfl (fun _ _ => rfl) (fun t ht hi hf => by
      rw [fresh9 t.val t.isLt.le] at hf
      have hN := Nat.lt_of_lt_of_eq t.isLt N37
      rw [after0_9, after0_9]
      refine congrArg (xcA m c) (Fin.ext ?_)
      simp only [Bool.or_eq_false_iff, decide_eq_false_iff_not, beq_eq_false_iff_ne] at hf
      simp only [p9]; omega) t.val t rfl d,
    fresh9 t.val t.isLt.le, if_neg (by simp only [Bool.or_eq_true, decide_eq_true_eq, beq_iff_eq]; omega), after0_9, after0_9]
  refine congrArg (xcA m c) (Fin.ext ?_)
  simp only [p9]; omega
theorem before0_10 (c : Dev nD) (t : Fin cfg0.N) (ht : 35 < t.val) (d) : (dats m 0 c).before 10 t d = (dats m 0 c).after 10 t := by
  have hN := Nat.lt_of_lt_of_eq t.isLt N37
  rw [(dats m 0 c).before_out_traj 10 rfl (fun _ _ => rfl) (fun t ht hi hf => by
      rw [fresh10 t.val t.isLt.le] at hf
      have hN := Nat.lt_of_lt_of_eq t.isLt N37
      rw [after0_10, after0_10]
      refine congrArg (csA m c) (Fin.ext ?_)
      simp only [Bool.or_eq_false_iff, decide_eq_false_iff_not, beq_eq_false_iff_ne] at hf
      simp only [p9]; omega) t.val t rfl d,
    fresh10 t.val t.isLt.le, if_neg (by simp only [Bool.or_eq_true, decide_eq_true_eq, beq_iff_eq]; omega), after0_10, after0_10]
  refine congrArg (csA m c) (Fin.ext ?_)
  simp only [p9]; omega
theorem before0_12 (c : Dev nD) (t : Fin cfg0.N) (ht : t.val ≠ 0) (d) : (dats m 0 c).before 12 t d = (dats m 0 c).after 12 t := by
  have hN := Nat.lt_of_lt_of_eq t.isLt N37
  rw [(dats m 0 c).before_out_traj 12 rfl (fun _ _ => rfl) (fun t h _ _ => by rw [after0_12, after0_12]) t.val t rfl d,
    fresh12 t.val t.isLt.le, if_neg (by simp only [Bool.or_eq_true, decide_eq_true_eq, beq_iff_eq]; omega), after0_12, after0_12]
theorem before0_13 (c : Dev nD) (t : Fin cfg0.N) (ht : t.val ≠ 0) (d) : (dats m 0 c).before 13 t d = (dats m 0 c).after 13 t := by
  have hN := Nat.lt_of_lt_of_eq t.isLt N37
  rw [(dats m 0 c).before_out_traj 13 rfl (fun _ _ => rfl) (fun t h _ _ => by rw [after0_13, after0_13]) t.val t rfl d,
    fresh13 t.val t.isLt.le, if_neg (by simp only [Bool.or_eq_true, decide_eq_true_eq, beq_iff_eq]; omega), after0_13, after0_13]
theorem before0_14 (c : Dev nD) (t : Fin cfg0.N) (ht : t.val ≠ 0) (d) : (dats m 0 c).before 14 t d = (dats m 0 c).after 14 t := by
  have hN := Nat.lt_of_lt_of_eq t.isLt N37
  rw [(dats m 0 c).before_out_traj 14 rfl (fun _ _ => rfl) (fun t h _ _ => by rw [after0_14, after0_14]) t.val t rfl d,
    fresh14 t.val t.isLt.le, if_neg (by simp only [Bool.or_eq_true, decide_eq_true_eq, beq_iff_eq]; omega), after0_14, after0_14]

theorem flush9 : ∀ t : Fin cfg0.N, t.val < 16 → (cfg0.win 9).flush t = false :=
  (by decide +kernel : ∀ t : Fin grid0.N, t.val < 16 → win0_9.flush t = false)
theorem flush10 : ∀ t : Fin cfg0.N, t.val < 16 → (cfg0.win 10).flush t = false :=
  (by decide +kernel : ∀ t : Fin grid0.N, t.val < 16 → win0_10.flush t = false)
theorem flush11 (t : Fin cfg0.N) (h : t.val < 36) : (cfg0.win 11).flush t = false := by
  have := flush0_11 t
  cases hf : (cfg0.win 11).flush t with
  | false => rfl
  | true => exact absurd (this.mp hf) (by omega)

/-- A buffer that the point stores is left at what the data say. -/
theorem leaves_stored (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact; rw [hi]

/-- A buffer that the point leaves alone, and that it does not write back. -/
theorem leaves_idle (c : Dev nD) (w : Fin cfg0.W) (t : Fin cfg0.N) (d) (hi : cfg0.idle w (cfg0.grid.coords t) = true)
    (hf : (cfg0.win w).flush t = false) :
    owns (c : Thread nD τ) ((cfg0.win w).stage (cfg0.slots t w)) fullShare ((dats m 0 c).before w t d) ⊢ (dats m 0 c).leavesExact w t := by
  unfold Dat.leavesExact
  rw [hi, hf]; dsimp only
  iintro H
  iexists d
  iexact H

/-- A buffer that holds its block already is left as the pipeline asks, whether or not the point writes it back. -/
theorem leaves_kept (c : Dev nD) (w : Fin cfg0.W) (t : Fin cfg0.N) (d) (h : (dats m 0 c).before w t d = (dats m 0 c).after w t) :
    owns (c : Thread nD τ) ((cfg0.win w).stage (cfg0.slots t w)) fullShare ((dats m 0 c).before w t d) ⊢ (dats m 0 c).leavesExact w t := by
  unfold Dat.leavesExact
  cases cfg0.idle w (cfg0.grid.coords t) with
  | false => rw [h]
  | true =>
    cases (cfg0.win w).flush t with
    | true => rw [h]
    | false =>
      dsimp only
      iintro H
      iexists d
      iexact H

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The first block of the gate, whatever was in the two buffers. -/
theorem fill8A (c : Dev nD) (d2 d3) : k0_pay3 (F := Ideal) (win0_2.fill (grid0.coords t0) d2 (iblk m c 2 t0)) (xbV (F := Ideal) (iblk m c 0 t0))
    (k0_pay10 (F := Ideal) (iblk m c 0 t0)) (win0_3.fill (grid0.coords t0) d3 (iblk m c 3 t0)) = zA m c (p8 t0) := by
  rw [fill2 m c t0 (by decide) d2, fill3 m c t0 (by decide) d3]; rfl

set_option maxHeartbeats 1600000 in
/-- At the first point. -/
theorem sound_body_A (c : Dev nD) (t : Fin cfg0.N) (h0 : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl,
    Phi_pos m c (Nat.succ_ne_zero _)]
  have hN : t.val < 37 := lt_of_lt_of_eq t.isLt N_0
  have hx2 : win0_2.cut (grid0.coords t) (wA m c t) = iblk m c 2 t := win0_2.cut_fill _ _ _
  have hx3 : win0_3.cut (grid0.coords t) (wsA m c t) = iblk m c 3 t := win0_3.cut_fill _ _ _
  rw [hx2, hx3]
  have c0 := (hcond0_0 t).mpr (by omega)
  have c1 := (hcond0_1 t).mpr (by omega)
  have c2 : ¬ cond0_2 (grid0.coords t) := fun h => absurd ((hcond0_2 t).mp h) (by omega)
  have c3 : ¬ cond0_3 (grid0.coords t) := fun h => absurd ((hcond0_3 t).mp h) (by omega)
  obtain rfl : t = t0 := Fin.ext h0
  rw [show t0.val = 0 from rfl, Phi_zero, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A (F := Ideal) c (grid0.coords t0) _ _ _ _ _ _ _ _ _ _ _ _ _ _ _ _ _ _ _ _ _ _ _ _ _ _ _ _ _ _ _ _ _ _ c0 c1 c2 c3 (iblk m c 0 t0) (iblk m c 1 t0) (win0_2.fill (grid0.coords t0) d2 (iblk m c 2 t0)) (win0_3.fill (grid0.coords t0) d3 (iblk m c 3 t0))) Set.univ _)
  isplitl [H0]; · iexact H0
  isplitl [H1]; · iexact H1
  isplitl [H2]; · iexact H2
  isplitl [H3]; · iexact H3
  isplitl [H8]; · iexists _; iexact H8
  isplitl [H12]; · iexists _; iexact H12
  isplitl [H13]; · iexists _; iexact H13
  isplitl [H14]; · iexists _; iexact H14
  isplitl [HS0]; · iexact HS0
  isplitl [HS1]; · iexact HS1
  iintro ⟨H0, H1, H2, H3, H8, H12, H13, H14, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iapply (leaves_stored m c 8 t0 (idle_false c1)); rw [after0_8]; rw [← fill8A m c d2 d3]; iexact H8
  isplitl [H9]; · iapply (leaves_idle m c 9 t0 d9 (idle_true c2) (flush9 t0 (by omega))); iexact H9
  isplitl [H10]; · iapply (leaves_idle m c 10 t0 d10 (idle_true c2) (flush10 t0 (by omega))); iexact H10
  isplitl [H11]; · iapply (leaves_idle m c 11 t0 d11 (idle_true c3) (flush11 t0 (by omega))); iexact H11
  isplitl [H12]; · iapply (leaves_stored m c 12 t0 (idle_false c0)); rw [after0_12]; iexact H12
  isplitl [H13]; · iapply (leaves_stored m c 13 t0 (idle_false c0)); rw [after0_13]; iexact H13
  iapply (leaves_stored m c 14 t0 (idle_false c0)); rw [after0_14]; iexact H14

set_option maxHeartbeats 1600000 in
/-- At the other gate points. -/
theorem sound_body_B (c : Dev nD) (t : Fin cfg0.N) (h0 : t.val ≠ 0) (h1 : t.val < 16) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl,
    Phi_pos m c (Nat.succ_ne_zero _)]
  have hN : t.val < 37 := lt_of_lt_of_eq t.isLt N_0
  have hx2 : win0_2.cut (grid0.coords t) (wA m c t) = iblk m c 2 t := win0_2.cut_fill _ _ _
  have hx3 : win0_3.cut (grid0.coords t) (wsA m c t) = iblk m c 3 t := win0_3.cut_fill _ _ _
  rw [hx2, hx3]
  have c0 : ¬ cond0_0 (grid0.coords t) := fun h => absurd ((hcond0_0 t).mp h) (by omega)
  have c1 := (hcond0_1 t).mpr (by omega)
  have c2 : ¬ cond0_2 (grid0.coords t) := fun h => absurd ((hcond0_2 t).mp h) (by omega)
  have c3 : ¬ cond0_3 (grid0.coords t) := fun h => absurd ((hcond0_3 t).mp h) (by omega)
  rw [Phi_pos m c h0]
  simp only [before0_13 m c t h0, before0_14 m c t h0, after0_13, after0_14]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_B (F := Ideal) c (grid0.coords t) _ _ _ _ _ _ _ _ _ _ _ _ _ _ _ _ _ _ _ _ _ _ _ _ _ _ _ _ _ _ _ _ _ _ c0 c1 c2 c3 (win0_2.fill (grid0.coords t) d2 (iblk m c 2 t)) (win0_3.fill (grid0.coords t) d3 (iblk m c 3 t)) (scA m c) (xbA m c)) Set.univ _)
  isplitl [H2]; · iexact H2
  isplitl [H3]; · iexact H3
  isplitl [H13]; · iexact H13
  isplitl [HS0]; · iexact HS0
  isplitl [H8]; · iexists _; iexact H8
  iintro ⟨H2, H3, H13, HS0, H8⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iapply (leaves_stored m c 8 t (idle_false c1)); rw [after0_8]; rw [show zA m c (p8 t) = zA m c t from congrArg _ (Fin.ext (show min t.val 15 = t.val by omega))]; unfold zA; rw [← fill2 m c t (by omega) d2, ← fill3 m c t (by omega) d3]; iexact H8
  isplitl [H9]; · iapply (leaves_idle m c 9 t d9 (idle_true c2) (flush9 t (by omega))); iexact H9
  isplitl [H10]; · iapply (leaves_idle m c 10 t d10 (idle_true c2) (flush10 t (by omega))); iexact H10
  isplitl [H11]; · iapply (leaves_idle m c 11 t d11 (idle_true c3) (flush11 t (by omega))); iexact H11
  isplitl [H12]; · iapply (leaves_kept m c 12 t d12 (before0_12 m c t h0 d12)); iexact H12
  isplitl [H13]; · iapply (leaves_kept m c 13 t d13 (before0_13 m c t h0 d13)); rw [before0_13 m c t h0, after0_13]; iexact H13
  iapply (leaves_kept m c 14 t d14 (before0_14 m c t h0 d14)); rw [before0_14 m c t h0, after0_14]; iexact H14

set_option maxHeartbeats 1600000 in
/-- At the convolution points. -/
theorem sound_body_C (c : Dev nD) (t : Fin cfg0.N) (h0 : t.val ≠ 0) (h1 : 16 ≤ t.val) (h2 : t.val < 36) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl,
    Phi_pos m c (Nat.succ_ne_zero _)]
  have hN : t.val < 37 := lt_of_lt_of_eq t.isLt N_0
  have hx2 : win0_2.cut (grid0.coords t) (wA m c t) = iblk m c 2 t := win0_2.cut_fill _ _ _
  have hx3 : win0_3.cut (grid0.coords t) (wsA m c t) = iblk m c 3 t := win0_3.cut_fill _ _ _
  rw [hx2, hx3]
  have c0 : ¬ cond0_0 (grid0.coords t) := fun h => absurd ((hcond0_0 t).mp h) (by omega)
  have c1 : ¬ cond0_1 (grid0.coords t) := fun h => absurd ((hcond0_1 t).mp h) (by omega)
  have c2 := (hcond0_2 t).mpr (by omega)
  have c3 : ¬ cond0_3 (grid0.coords t) := fun h => absurd ((hcond0_3 t).mp h) (by omega)
  rw [Phi_pos m c h0]
  simp only [before0_13 m c t h0, before0_14 m c t h0, after0_13, after0_14]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_C (F := Ideal) c (grid0.coords t) _ _ _ _ _ _ _ _ _ _ _ _ _ _ _ _ _ _ _ _ _ _ _ _ _ _ _ _ _ _ _ _ _ _ c0 c1 c2 c3 (win0_2.fill (grid0.coords t) d2 (iblk m c 2 t)) (win0_3.fill (grid0.coords t) d3 (iblk m c 3 t)) (iblk m c 4 t) (iblk m c 5 t) (iblk m c 6 t) (scA m c) (ivA m c) (xbA m c) (slA m c)) Set.univ _)
  isplitl [H2]; · iexact H2
  isplitl [H3]; · iexact H3
  isplitl [H4]; · iexact H4
  isplitl [H5]; · iexact H5
  isplitl [H6]; · iexact H6
  isplitl [H13]; · iexact H13
  isplitl [H14]; · iexact H14
  isplitl [HS0]; · iexact HS0
  isplitl [HS1]; · iexact HS1
  isplitl [H9]; · iexists _; iexact H9
  isplitl [H10]; · iexists _; iexact H10
  iintro ⟨H2, H3, H4, H5, H6, H13, H14, HS0, HS1, H9, H10⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iapply (leaves_kept m c 8 t d8 (before0_8 m c t (by omega) d8)); iexact H8
  isplitl [H9]; · iapply (leaves_stored m c 9 t (idle_false c2)); rw [after0_9]; rw [show p9 t = t from Fin.ext (show min (max t.val 16) 35 = t.val by omega)]; unfold xcA zA; rw [← fill2 m c t (by omega) d2, ← fill3 m c t (by omega) d3]; iexact H9
  isplitl [H10]; · iapply (leaves_stored m c 10 t (idle_false c2)); rw [after0_10]; rw [show p9 t = t from Fin.ext (show min (max t.val 16) 35 = t.val by omega)]; unfold csA zA; rw [← fill2 m c t (by omega) d2, ← fill3 m c t (by omega) d3]; iexact H10
  isplitl [H11]; · iapply (leaves_idle m c 11 t d11 (idle_true c3) (flush11 t (by omega))); iexact H11
  isplitl [H12]; · iapply (leaves_kept m c 12 t d12 (before0_12 m c t h0 d12)); iexact H12
  isplitl [H13]; · iapply (leaves_kept m c 13 t d13 (before0_13 m c t h0 d13)); rw [before0_13 m c t h0, after0_13]; iexact H13
  iapply (leaves_kept m c 14 t d14 (before0_14 m c t h0 d14)); rw [before0_14 m c t h0, after0_14]; iexact H14

/-- The time steps do not see what was in the two buffers past the arrays' ends. -/
theorem dt_at (c : Dev nD) (t : Fin cfg0.N) (h : t.val = 36) (d2 d3) :
    k0_pay8 (F := Ideal) (win0_2.fill (grid0.coords t) d2 (iblk m c 2 t)) (xbA m c) (scA m c)
      (win0_3.fill (grid0.coords t) d3 (iblk m c 3 t)) (iblk m c 7 t) = dtA m c := by
  obtain rfl : t = t36 := Fin.ext h
  exact pay8_congr _ _ _ _ _ _ _ (fun k hk y => fill2_row t36 rfl _ _ _ k hk y) (fun k hk y => fill3_col t36 rfl _ _ _ k hk y)

set_option maxHeartbeats 1600000 in
/-- At the last point. -/
theorem sound_body_D (c : Dev nD) (t : Fin cfg0.N) (h0 : t.val ≠ 0) (h3 : t.val = 36) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl,
    Phi_pos m c (Nat.succ_ne_zero _)]
  have hN : t.val < 37 := lt_of_lt_of_eq t.isLt N_0
  have hx2 : win0_2.cut (grid0.coords t) (wA m c t) = iblk m c 2 t := win0_2.cut_fill _ _ _
  have hx3 : win0_3.cut (grid0.coords t) (wsA m c t) = iblk m c 3 t := win0_3.cut_fill _ _ _
  rw [hx2, hx3]
  have c0 : ¬ cond0_0 (grid0.coords t) := fun h => absurd ((hcond0_0 t).mp h) (by omega)
  have c1 : ¬ cond0_1 (grid0.coords t) := fun h => absurd ((hcond0_1 t).mp h) (by omega)
  have c2 : ¬ cond0_2 (grid0.coords t) := fun h => absurd ((hcond0_2 t).mp h) (by omega)
  have c3 := (hcond0_3 t).mpr (by omega)
  rw [Phi_pos m c h0]
  simp only [before0_13 m c t h0, before0_14 m c t h0, after0_13, after0_14]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_D (F := Ideal) c (grid0.coords t) _ _ _ _ _ _ _ _ _ _ _ _ _ _ _ _ _ _ _ _ _ _ _ _ _ _ _ _ _ _ _ _ _ _ c0 c1 c2 c3 (win0_2.fill (grid0.coords t) d2 (iblk m c 2 t)) (win0_3.fill (grid0.coords t) d3 (iblk m c 3 t)) (iblk m c 7 t) (scA m c) (xbA m c)) Set.univ _)
  isplitl [H2]; · iexact H2
  isplitl [H3]; · iexact H3
  isplitl [H7]; · iexact H7
  isplitl [H13]; · iexact H13
  isplitl [HS0]; · iexact HS0
  isplitl [H11]; · iexists _; iexact H11
  iintro ⟨H2, H3, H7, H13, HS0, H11⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexists d2; iexact H2
  isplitl [H3]; · iexists d3; iexact H3
  isplitl [H4]; · iexact H4
  isplitl [H5]; · iexact H5
  isplitl [H6]; · iexact H6
  isplitl [H7]; · iexact H7
  isplitl [H8]; · iapply (leaves_kept m c 8 t d8 (before0_8 m c t (by omega) d8)); iexact H8
  isplitl [H9]; · iapply (leaves_kept m c 9 t d9 (before0_9 m c t (by omega) d9)); iexact H9
  isplitl [H10]; · iapply (leaves_kept m c 10 t d10 (before0_10 m c t (by omega) d10)); iexact H10
  isplitl [H11]; · iapply (leaves_stored m c 11 t (idle_false c3)); rw [after0_11]; rw [← dt_at m c t h3 d2 d3]; iexact H11
  isplitl [H12]; · iapply (leaves_kept m c 12 t d12 (before0_12 m c t h0 d12)); iexact H12
  isplitl [H13]; · iapply (leaves_kept m c 13 t d13 (before0_13 m c t h0 d13)); rw [before0_13 m c t h0, after0_13]; iexact H13
  iapply (leaves_kept m c 14 t d14 (before0_14 m c t h0 d14)); rw [before0_14 m c t h0, after0_14]; iexact H14

theorem sound_body (c : Dev nD) (t : Fin cfg0.N) :
    bodyPre m c t ⊢ wp frame (wpE (defs₀ (F := Ideal)) Variants.none c none) Set.univ (bodyAt0 t) (fun _ => bodyPost m c t) := by
  have hN : t.val < 37 := lt_of_lt_of_eq t.isLt N_0
  by_cases h0 : t.val = 0
  · exact sound_body_A m c t h0
  by_cases h1 : t.val < 16
  · exact sound_body_B m c t h0 h1
  by_cases h2 : t.val < 36
  · exact sound_body_C m c t h0 (by omega) h2
  · exact sound_body_D m c t h0 (by omega)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-! ## The run -/

theorem Phi_in (c : Dev nD) : Pipeline.ΦA spec0 c ⊢ PhiT m c 0 := by rw [Phi_zero]
theorem Phi_out (c : Dev nD) : PhiT m c 37 ⊢ Pipeline.ΦA spec0 c := by
  rw [Phi_pos m c (by decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: the arrays end as the proof data say, and every semaphore counter at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hin := fun c => Phi_in m c) (hout := fun c => Phi_out m c)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.InIdeal.Hand

end
-- ==== Proof.Quant.lean ====
module

public import Idealize.ShloMosaic.Lib.Pointwise
public import Idealize.ShloMosaic.Lib.IdealHost

/-! # A clipped, rounded number is an integer code

Over the extended reals the rounding to the nearest integer, clipped to the interval from −127 to 127, is one of the
integers between them.  Converting it to a one-byte code, or to a wider integer that is then cut to one byte, gives the same
code, and reading that code back as a float gives the number itself. -/

@[expose] public section

set_option maxRecDepth 16384

noncomputable section

namespace Cert.Quant
open Idealize.ShloMosaic Idealize.ShloMosaic.TcCoe

theorem ofBits_127 : Ideal.ofBits .f32 1123942400#32 = ((127 : ℝ) : EReal) := by
  simp [Ideal.ofBits, Ideal.ieee, -EReal.coe_mul]; norm_num

theorem ofBits_neg127 : Ideal.ofBits .f32 3271426048#32 = ((-127 : ℝ) : EReal) := by
  simp [Ideal.ofBits, Ideal.ieee, -EReal.coe_mul]; norm_num

/-- The clipped, rounded number. -/
def q (v : EReal) : EReal :=
  min (Ideal.ofBits .f32 1123942400#32) (max (Ideal.ofBits .f32 3271426048#32) (Ideal.liftRound Ideal.roundHalfEven v))

/-- It is an integer between −127 and 127. -/
theorem q_int (v : EReal) : ∃ n : ℤ, -127 ≤ n ∧ n ≤ 127 ∧ q v = ((n : ℝ) : EReal) := by
  unfold q
  rw [ofBits_127, ofBits_neg127]
  induction v with
  | bot => exact ⟨-127, by norm_num, by norm_num, by
      show min _ (max _ (⊥ : EReal)) = _
      rw [max_eq_left bot_le, min_eq_right (by exact_mod_cast (by norm_num : (-127 : ℝ) ≤ 127))]
      norm_num⟩
  | top => exact ⟨127, by norm_num, by norm_num, by
      show min _ (max _ (⊤ : EReal)) = _
      rw [max_eq_right le_top, min_eq_left le_top]
      norm_num⟩
  | coe r =>
      refine ⟨min 127 (max (-127) (Ideal.roundHalfEven r)), by omega, by omega, ?_⟩
      show min _ (max _ (((Ideal.roundHalfEven r : ℤ) : ℝ) : EReal)) = _
      rw [← EReal.coe_strictMono.monotone.map_max, ← EReal.coe_strictMono.monotone.map_min]
      push_cast
      rfl

theorem fptosi_int {w : Nat} (n : ℤ) (h0 : -(2 ^ (w - 1) : Nat) ≤ n) (h1 : n ≤ (2 ^ (w - 1) : Nat) - 1) :
    Ideal.fptosi w ((n : ℝ) : EReal) = BitVec.ofInt w n := by
  unfold Ideal.fptosi
  congr 1
  show max _ (min _ (if (0 : ℝ) ≤ (n : ℝ) then ⌊(n : ℝ)⌋ else ⌈(n : ℝ)⌉)) = n
  rw [Int.floor_intCast, Int.ceil_intCast, ite_self]
  omega

/-- Cutting the wide integer to one byte gives the code converted directly. -/
theorem code_eq (v : EReal) :
    BitVec.setWidth 8 (FloatOps.fptosi (F := Ideal) (φ := .f32) 32 (q v)) = FloatOps.fptosi (F := Ideal) (φ := .f32) 8 (q v) := by
  obtain ⟨n, h0, h1, e⟩ := q_int v
  rw [e]
  show BitVec.setWidth 8 (Ideal.fptosi 32 _) = Ideal.fptosi 8 _
  rw [fptosi_int n (by norm_num; omega) (by norm_num; omega), fptosi_int n (by norm_num; omega) (by norm_num; omega)]
  apply BitVec.eq_of_toNat_eq
  rw [BitVec.toNat_setWidth, BitVec.toNat_ofInt, BitVec.toNat_ofInt]
  norm_num
  omega

/-- Reading the code back gives the clipped, rounded number. -/
theorem code_back (v : EReal) :
    FloatOps.sitofp (F := Ideal) .f32 (BitVec.signExtend 32 (FloatOps.fptosi (F := Ideal) (φ := .f32) 8 (q v))) = q v := by
  obtain ⟨n, h0, h1, e⟩ := q_int v
  rw [e]
  show (((BitVec.signExtend 32 (Ideal.fptosi 8 _)).toInt : ℝ) : EReal) = _
  rw [fptosi_int n (by norm_num; omega) (by norm_num; omega), BitVec.toInt_signExtend_of_le (by norm_num), BitVec.toInt_ofInt]
  congr 2
  rw [Int.bmod_eq_of_le] <;> norm_num <;> omega

end Cert.Quant
end
-- ==== Proof.InSpec.lean ====
module

public import proofs.«01_k».proof.Proof.Gen.RefInIdeal.Run
public import proofs.«01_k».proof.Proof.Quant
public import Idealize.ShloMosaic.Lib.Pointwise
public import Idealize.ShloMosaic.Lib.Routing.OpsPair

/-! # The input projection and the causal convolution: what the reference computes, entry by entry

A row of the input is quantised to integers between −127 and 127 by one scale of its own, multiplied by the integer weight
and rescaled.  The product's columns are the gate, the convolved channels and the time steps.  The window of row `b` is the
three columns stored in the slot it names and its own new one; its convolution is the sum of the four products with the taps.
The convolved rows and the windows' last three columns are written to the slots the rows name. -/

@[expose] public section

set_option maxRecDepth 16384

noncomputable section

namespace Cert.InSpec
open Cert.RefInIdeal Cert.RefInIdeal.Gen Idealize.ShloMosaic Idealize.ShloMosaic.TcCoe Cert.Quant

/-- The largest magnitude of each row. -/
def rMax (x : FVec Ideal S120x1x4096 .bf16) : FVec Ideal S120x1x1 .f32 :=
  broadcastInDim S120x1x1 ![0, 1] bcast_S120x1_S120x1x1_0_1 (Host.reduce FloatOps.maximumf (Host.absf (extf .f32 x bitsLt_bf16_f32)) (constant S_ .f32 0xFF800000#32) reducesTo_S120x1x4096_S120x1_d2 h_S_)

/-- The reference's scale of each row. -/
def rScale (x : FVec Ideal S120x1x4096 .bf16) : FVec Ideal S120x1x1 .f32 :=
  select (cmpf .oeq (rMax x) (broadcastInDim S120x1x1 ![] bcast_S_S120x1x1 (constant S_ .f32 0x00000000#32)))
    (broadcastInDim S120x1x1 ![] bcast_S_S120x1x1 (id (constant S_ .f32 0x3F800000#32)))
    (Host.divf (rMax x) (broadcastInDim S120x1x1 ![] bcast_S_S120x1x1 (constant S_ .f32 0x42FE0000#32)))

/-- The reference's codes. -/
def rCode (x : FVec Ideal S120x1x4096 .bf16) : IVec S120x1x4096 8 :=
  trunci 8 (fptosi 32 (minimumf (broadcastInDim S120x1x4096 ![] bcast_S_S120x1x4096 (id (constant S_ .f32 0x42FE0000#32)))
    (maximumf (broadcastInDim S120x1x4096 ![] bcast_S_S120x1x4096 (id (constant S_ .f32 0xC2FE0000#32)))
      (Host.roundeven (Host.divf (extf .f32 x bitsLt_bf16_f32) (broadcastInDim S120x1x4096 ![0, 1, 2] bcast_S120x1x1_S120x1x4096_0_1_2 (rScale x))))))) natLt_8_32

/-- The reference's product of codes, rescaled. -/
def rZx (q : IVec S120x1x4096 8) (s : FVec Ideal S120x1x1 .f32) (w : IVec S4096x18496 8) (ws : FVec Ideal S18496 .f32) : FVec Ideal S120x18496 .f32 :=
  shapeCast S120x18496 (mulf (mulf (Host.dotGeneral dot_S120x1x4096_S4096x18496_S120x1x18496_2_0_01_1_n_n none
        (truncf .bf16 (sitofp .f32 (extsi 32 q natLt_8_32)) bitsLt_bf16_f32)
        (truncf .bf16 (sitofp .f32 (extsi 32 w natLt_8_32)) bitsLt_bf16_f32))
      (broadcastInDim S120x1x18496 ![0, 1, 2] bcast_S120x1x1_S120x1x18496_0_1_2 (broadcastInDim S120x1x1 ![0, 1] bcast_S120x1_S120x1x1_0_1 (shapeCast S120x1 s shapeCasts_S120x1x1_S120x1))))
    (broadcastInDim S120x1x18496 ![0, 1, 2] bcast_S1x1x18496_S120x1x18496_0_1_2 (broadcastInDim S1x1x18496 ![2] bcast_S18496_S1x1x18496_2 ws))) shapeCasts_S120x1x18496_S120x18496

/-- The gate's columns. -/
def rZ (p : FVec Ideal S120x18496 .f32) : FVec Ideal S120x8192 .f32 := extractStridedSlice S120x8192 ![0, 0] p slices_S120x18496_S120x8192_0_0

/-- The convolved channels. -/
def rXb (p : FVec Ideal S120x18496 .f32) : FVec Ideal S120x10240 .bf16 :=
  truncf .bf16 (extractStridedSlice S120x10240 ![0, 8192] p slices_S120x18496_S120x10240_0_8192) bitsLt_bf16_f32

/-- The time steps before the softplus. -/
def rPre (p : FVec Ideal S120x18496 .f32) (b : FVec Ideal S64 .f32) : FVec Ideal S120x64 .f32 :=
  addf (extractStridedSlice S120x64 ![0, 18432] p slices_S120x18496_S120x64_0_18432)
    (broadcastInDim S120x64 ![0, 1] bcast_S1x64_S120x64_0_1 (broadcastInDim S1x64 ![1] bcast_S64_S1x64_1 b))

/-- The softplus as the reference writes it. -/
def rSoftplus (v : FVec Ideal S120x64 .f32) : FVec Ideal S120x64 .f32 :=
  select (cmpf .une (subf v (broadcastInDim S120x64 ![] bcast_S_S120x64 (constant S_ .f32 0x00000000#32))) (subf v (broadcastInDim S120x64 ![] bcast_S_S120x64 (constant S_ .f32 0x00000000#32))))
    (addf v (broadcastInDim S120x64 ![] bcast_S_S120x64 (constant S_ .f32 0x00000000#32)))
    (addf (maximumf v (broadcastInDim S120x64 ![] bcast_S_S120x64 (constant S_ .f32 0x00000000#32)))
      (Host.log1p (Host.exp (Host.negf (Host.absf (subf v (broadcastInDim S120x64 ![] bcast_S_S120x64 (constant S_ .f32 0x00000000#32))))))))

/-- The slots as index words. -/
def rIdx (s : IVec S120 32) : IVec S120x1 32 :=
  broadcastInDim S120x1 ![0] bcast_S120_S120x1_0 (select (cmpi .slt s (broadcastInDim S120 ![] bcast_S_S120 (constantI S_ 32 0#32)))
    (addi s (broadcastInDim S120 ![] bcast_S_S120 (constantI S_ 32 153#32))) s)

/-- The rows which own the slots. -/
def rOwn (s : IVec S120 32) : IVec S153 32 :=
  Host.scatter scatter_S153_S120x1_S120_n_0_0_1 (fun _ b => b) (broadcastInDim S153 ![] bcast_S_S153 (constantI S_ 32 4294967295#32)) (rIdx s) (iotaInDim S120 32 0)

/-- The stored columns of the slot each row names. -/
def rGat (s : IVec S120 32) (v : FVec Ideal S153x10240x3 .bf16) : FVec Ideal S120x10240x3 .bf16 :=
  Host.gather gather_S153x10240x3_S120x1_S120x10240x3_12_0_n_n_0_1_1102403 v (rIdx s)

/-- The window of each row: three stored columns and the new one. -/
def rWin (v : FVec Ideal S120x10240x3 .bf16) (n : FVec Ideal S120x10240 .bf16) : FVec Ideal S120x10240x4 .bf16 :=
  concatenate S120x10240x4 2 [⟨S120x10240x3, v⟩, ⟨S120x10240x1, broadcastInDim S120x10240x1 ![0, 1] bcast_S120x10240_S120x10240x1_0_1 n⟩] concatenates_S120x10240x3_S120x10240x1_S120x10240x4_d2

/-- The convolution with its bias. -/
def rConv (u : FVec Ideal S120x10240x4 .bf16) (w : FVec Ideal S10240x4 .f32) (b : FVec Ideal S10240 .f32) : FVec Ideal S120x10240 .f32 :=
  addf (Host.reduceAdd (mulf (extf .f32 u bitsLt_bf16_f32) (broadcastInDim S120x10240x4 ![0, 1, 2] bcast_S1x10240x4_S120x10240x4_0_1_2 (broadcastInDim S1x10240x4 ![1, 2] bcast_S10240x4_S1x10240x4_1_2 w)))
      (constant S_ .f32 0x00000000#32) reducesTo_S120x10240x4_S120x10240_d2 h_S_)
    (broadcastInDim S120x10240 ![0, 1] bcast_S1x10240_S120x10240_0_1 (broadcastInDim S1x10240 ![1] bcast_S10240_S1x10240_1 b))

/-- The convolution of a slot's stored columns alone. -/
def rIdle (v : FVec Ideal S153x10240x3 .bf16) (w : FVec Ideal S10240x4 .f32) (b : FVec Ideal S10240 .f32) : FVec Ideal S153x10240 .f32 :=
  addf (Host.reduceAdd (mulf (extf .f32 v bitsLt_bf16_f32) (broadcastInDim S153x10240x3 ![0, 1, 2] bcast_S1x10240x3_S153x10240x3_0_1_2 (broadcastInDim S1x10240x3 ![1, 2] bcast_S10240x3_S1x10240x3_1_2
        (extractStridedSlice S10240x3 ![0, 0] w slices_S10240x4_S10240x3_0_0))))
      (constant S_ .f32 0x00000000#32) reducesTo_S153x10240x3_S153x10240_d2 h_S_)
    (broadcastInDim S153x10240 ![0, 1] bcast_S1x10240_S153x10240_0_1 (broadcastInDim S1x10240 ![1] bcast_S10240_S1x10240_1 b))

/-- The silu as the reference writes it, of the rows and of the slots. -/
def rSilu (a : FVec Ideal S120x10240 .f32) : FVec Ideal S120x10240 .f32 :=
  mulf a (Host.divf (broadcastInDim S120x10240 ![] bcast_S_S120x10240 (constant S_ .f32 0x3F800000#32))
    (addf (broadcastInDim S120x10240 ![] bcast_S_S120x10240 (constant S_ .f32 0x3F800000#32)) (Host.exp (Host.negf a))))
def rSiluS (a : FVec Ideal S153x10240 .f32) : FVec Ideal S153x10240 .f32 :=
  mulf a (Host.divf (broadcastInDim S153x10240 ![] bcast_S_S153x10240 (constant S_ .f32 0x3F800000#32))
    (addf (broadcastInDim S153x10240 ![] bcast_S_S153x10240 (constant S_ .f32 0x3F800000#32)) (Host.exp (Host.negf a))))

/-- Rows written to the slots they name, over what the slots held. -/
def rPut (s : IVec S120 32) (v : FVec Ideal S153x10240 .f32) (n : FVec Ideal S120x10240 .f32) : FVec Ideal S153x10240 .f32 :=
  Host.scatter scatter_S153x10240_S120x1_S120x10240_1_0_0_1 (fun _ b => b) v (rIdx s) n

/-- Columns written to the slots the rows name, over the stored ones. -/
def rPut3 (s : IVec S120 32) (v : FVec Ideal S153x10240x3 .bf16) (n : FVec Ideal S120x10240x3 .bf16) : FVec Ideal S153x10240x3 .bf16 :=
  Host.scatter scatter_S153x10240x3_S120x1_S120x10240x3_12_0_0_1 (fun _ b => b) v (rIdx s) n

/-- The last three columns of a window. -/
def rLast (u : FVec Ideal S120x10240x4 .bf16) : FVec Ideal S120x10240x3 .bf16 :=
  extractStridedSlice S120x10240x3 ![0, 0, 1] u slices_S120x10240x4_S120x10240x3_0_0_1

/-- The new stored columns, the column axis first. -/
def rNew (s : IVec S120 32) (u : FVec Ideal S120x10240x4 .bf16) (v : FVec Ideal S153x10240x3 .bf16) : FVec Ideal S3x153x10240 .bf16 :=
  transpose S3x153x10240 [2, 0, 1] (rPut3 s v (rLast u)) transposes_S153x10240x3_S3x153x10240_2_0_1

variable (m : (ℓ : Loc nD τ sig) → Buf (Elt Ideal) ℓ) (c : Dev nD)

/-- The rescaled product of the reference's arguments. -/
abbrev rP : FVec Ideal S120x18496 .f32 :=
  rZx (rCode (m ((c.tc : Thread nD τ).loc main_arg0))) (rScale (m ((c.tc : Thread nD τ).loc main_arg0))) (m ((c.tc : Thread nD τ).loc main_arg2)) (m ((c.tc : Thread nD τ).loc main_arg3))

/-- The windows of the reference's arguments. -/
abbrev rU : FVec Ideal S120x10240x4 .bf16 :=
  rWin (rGat (m ((c.tc : Thread nD τ).loc main_arg1)) (m ((c.tc : Thread nD τ).loc main_arg4))) (rXb (rP m c))

theorem res1 : Value.res_out1 m c = rPut (m ((c.tc : Thread nD τ).loc main_arg1))
  (rSiluS (rIdle (m ((c.tc : Thread nD τ).loc main_arg4)) (m ((c.tc : Thread nD τ).loc main_arg5)) (m ((c.tc : Thread nD τ).loc main_arg6))))
  (rSilu (rConv (rU m c) (m ((c.tc : Thread nD τ).loc main_arg5)) (m ((c.tc : Thread nD τ).loc main_arg6)))) := rfl
theorem res3 : Value.res_out3 m c = rSoftplus (rPre (rP m c) (m ((c.tc : Thread nD τ).loc main_arg7))) := rfl

/-- The code of an entry is the clipped, rounded quotient by its row's scale. -/
theorem rCode_at (x : FVec Ideal S120x1x4096 .bf16) (r : Fin 120) (d : Fin 4096) :
    rCode x (ix3 r 0 d) = FloatOps.fptosi (F := Ideal) (φ := .f32) 8 (q (Ideal.div (x (ix3 r 0 d)) (rScale x (ix3 r 0 0)))) := by
  unfold rCode
  pointwise
  exact code_eq _

theorem rZx_at (c : IVec S120x1x4096 8) (s : FVec Ideal S120x1x1 .f32) (w : IVec S4096x18496 8) (ws : FVec Ideal S18496 .f32) (r : Fin 120) (e : Fin 18496) :
    rZx c s w ws (ix2 r e) = (∑ x : Fin 4096, FloatOps.sitofp (F := Ideal) .f32 (BitVec.signExtend 32 (c (ix3 r 0 x))) *
            FloatOps.sitofp (F := Ideal) .f32 (BitVec.signExtend 32 (w (ix2 x e)))) * s (ix3 r 0 0) * ws (ix1 e) := by
  unfold rZx
  pointwise

theorem rZ_at (p : FVec Ideal S120x18496 .f32) (r : Fin 120) (e : Fin 8192) : rZ p (ix2 r e) = p (ix2 r ⟨e.val, by omega⟩) := by
  unfold rZ
  pointwise

theorem rXb_at (p : FVec Ideal S120x18496 .f32) (r : Fin 120) (e : Fin 10240) : rXb p (ix2 r e) = p (ix2 r ⟨8192 + e.val, by omega⟩) := by
  unfold rXb
  pointwise

theorem rPre_at (p : FVec Ideal S120x18496 .f32) (b : FVec Ideal S64 .f32) (r : Fin 120) (e : Fin 64) :
    rPre p b (ix2 r e) = p (ix2 r ⟨18432 + e.val, by omega⟩) + b (ix1 e) := by
  unfold rPre
  pointwise

/-- The softplus at an entry. -/
def softplus (v : EReal) : EReal := max v (Ideal.ofBits .f32 0#32) + Ideal.log1p (Ideal.exp (Ideal.ofBits .f32 0#32 - FloatOps.absf (F := Ideal) (φ := .f32) v))

theorem rSoftplus_at (v : FVec Ideal S120x64 .f32) (r : Fin 120) (e : Fin 64) : rSoftplus v (ix2 r e) = softplus (v (ix2 r e)) := by
  unfold rSoftplus softplus
  pointwise
  rw [if_neg (by simp), zero_sub]

theorem rIdx_at (s : IVec S120 32) (r : Fin 120) (h : 0 ≤ (s (ix1 r)).toInt) : rIdx s (ix2 r 0) = s (ix1 r) := by
  unfold rIdx
  pointwise
  exact Routing.wrap_of_lt _ _ (by
    rw [BitVec.toInt_eq_toNat_cond] at h
    have := (s (ix1 r)).isLt
    split at h <;> omega)

theorem rWin_old (v : FVec Ideal S120x10240x3 .bf16) (n : FVec Ideal S120x10240 .bf16) (r : Fin 120) (e : Fin 10240) (k : Fin 3) :
    rWin v n (ix3 r e ⟨k.val, by omega⟩) = v (ix3 r e k) := by
  unfold rWin
  pointwise

theorem rWin_new (v : FVec Ideal S120x10240x3 .bf16) (n : FVec Ideal S120x10240 .bf16) (r : Fin 120) (e : Fin 10240) :
    rWin v n (ix3 r e 3) = n (ix2 r e) := by
  unfold rWin
  pointwise

theorem rConv_at (u : FVec Ideal S120x10240x4 .bf16) (w : FVec Ideal S10240x4 .f32) (b : FVec Ideal S10240 .f32) (r : Fin 120) (e : Fin 10240) :
    rConv u w b (ix2 r e) = u (ix3 r e 0) * w (ix2 e 0) + u (ix3 r e 1) * w (ix2 e 1) + u (ix3 r e 2) * w (ix2 e 2) + u (ix3 r e 3) * w (ix2 e 3) + b (ix1 e) := by
  unfold rConv
  pointwise
  rw [Fin.sum_univ_four]

theorem rIdle_at (v : FVec Ideal S153x10240x3 .bf16) (w : FVec Ideal S10240x4 .f32) (b : FVec Ideal S10240 .f32) (s : Fin 153) (e : Fin 10240) :
    rIdle v w b (ix2 s e) = v (ix3 s e 0) * w (ix2 e 0) + v (ix3 s e 1) * w (ix2 e 1) + v (ix3 s e 2) * w (ix2 e 2) + b (ix1 e) := by
  unfold rIdle
  pointwise
  rw [Fin.sum_univ_three]
  rfl

theorem rSilu_at (a : FVec Ideal S120x10240 .f32) (r : Fin 120) (e : Fin 10240) : rSilu a (ix2 r e) = a (ix2 r e) * Ideal.logistic (a (ix2 r e)) := by
  unfold rSilu Ideal.logistic
  pointwise
theorem rSiluS_at (a : FVec Ideal S153x10240 .f32) (s : Fin 153) (e : Fin 10240) : rSiluS a (ix2 s e) = a (ix2 s e) * Ideal.logistic (a (ix2 s e)) := by
  unfold rSiluS Ideal.logistic
  pointwise

theorem rLast_at (u : FVec Ideal S120x10240x4 .bf16) (r : Fin 120) (e : Fin 10240) (k : Fin 3) : rLast u (ix3 r e k) = u (ix3 r e ⟨1 + k.val, by omega⟩) := by
  unfold rLast
  pointwise

theorem rNew_at (s : IVec S120 32) (u : FVec Ideal S120x10240x4 .bf16) (v : FVec Ideal S153x10240x3 .bf16) (k : Fin 3) (t : Fin 153) (e : Fin 10240) :
    rNew s u v (ix3 k t e) = rPut3 s v (rLast u) (ix3 t e k) := by
  unfold rNew
  generalize rPut3 s v (rLast u) = G
  pointwise

end Cert.InSpec
end
-- ==== Proof.InScatter.lean ====
module

public import proofs.«01_k».proof.Proof.InSpec
public import Idealize.ShloMosaic.Lib.Routing.OpsSet

/-! # Writing rows to the slots they name

Row `b` is written to the row `slot b` of a table.  When no two rows name one slot, a slot holds the row that names it, and
what the table held before when none does.  A row reads the slot it names. -/

@[expose] public section

set_option maxRecDepth 16384

noncomputable section

namespace Cert.InSpec
open Cert.RefInIdeal Cert.RefInIdeal.Gen Idealize.ShloMosaic Idealize.ShloMosaic.TcCoe

/-- The entry `(b, e)` of the rows lands at `(t, e')` exactly when row `b` names slot `t` and the columns agree. -/
theorem lands_row (idx : IVec S120x1 32) (b : Fin 120) (e : Fin 10240) (t : Fin 153) (e' : Fin 10240) :
    scatter_S153x10240_S120x1_S120x10240_1_0_0_1.resultIdx? (ix2 b e) idx = some (ix2 t e')
      ↔ (idx (ix2 b 0)).toInt = (t.val : Int) ∧ e = e' := by
  have h0 : scatter_S153x10240_S120x1_S120x10240_1_0_0_1.start (ix2 b e) idx 0 = (idx (ix2 b 0)).toInt := by
    unfold ScatterDims.start
    rw [dif_pos (by decide)]
    refine congrArg (fun j => (idx j).toInt) (funext fun a => Fin.ext ?_)
    fin_cases a <;> rfl
  have h1 : scatter_S153x10240_S120x1_S120x10240_1_0_0_1.start (ix2 b e) idx 1 = 0 := by
    unfold ScatterDims.start
    rw [dif_neg (by decide)]
  have w0 : scatter_S153x10240_S120x1_S120x10240_1_0_0_1.window (ix2 b e) 0 = 0 := by
    unfold ScatterDims.window
    rw [dif_neg (by decide)]
  have w1 : scatter_S153x10240_S120x1_S120x10240_1_0_0_1.window (ix2 b e) 1 = e.val := by
    unfold ScatterDims.window
    rw [dif_pos (by decide)]
    rfl
  refine (Routing.resultIdx?_ix2 (R := 153) (C := 10240) _ _ _ t e').trans ?_
  rw [h0, h1, w0, w1]
  constructor
  · rintro ⟨p, q⟩
    exact ⟨by omega, Fin.ext (by omega)⟩
  · rintro ⟨p, rfl⟩
    exact ⟨by omega, by omega⟩

/-- The same of a table whose entries are three columns. -/
theorem lands_row3 (idx : IVec S120x1 32) (b : Fin 120) (e : Fin 10240) (k : Fin 3) (t : Fin 153) (e' : Fin 10240) (k' : Fin 3) :
    scatter_S153x10240x3_S120x1_S120x10240x3_12_0_0_1.resultIdx? (ix3 b e k) idx = some (ix3 t e' k')
      ↔ (idx (ix2 b 0)).toInt = (t.val : Int) ∧ e = e' ∧ k = k' := by
  have h0 : scatter_S153x10240x3_S120x1_S120x10240x3_12_0_0_1.start (ix3 b e k) idx 0 = (idx (ix2 b 0)).toInt := by
    unfold ScatterDims.start
    rw [dif_pos (by decide)]
    refine congrArg (fun j => (idx j).toInt) (funext fun a => Fin.ext ?_)
    fin_cases a <;> rfl
  have h1 : scatter_S153x10240x3_S120x1_S120x10240x3_12_0_0_1.start (ix3 b e k) idx 1 = 0 := by
    unfold ScatterDims.start
    rw [dif_neg (by decide)]
  have h2 : scatter_S153x10240x3_S120x1_S120x10240x3_12_0_0_1.start (ix3 b e k) idx 2 = 0 := by
    unfold ScatterDims.start
    rw [dif_neg (by decide)]
  have w0 : scatter_S153x10240x3_S120x1_S120x10240x3_12_0_0_1.window (ix3 b e k) 0 = 0 := by
    unfold ScatterDims.window
    rw [dif_neg (by decide)]
  have w1 : scatter_S153x10240x3_S120x1_S120x10240x3_12_0_0_1.window (ix3 b e k) 1 = e.val := by
    unfold ScatterDims.window
    rw [dif_pos (by decide)]
    rfl
  have w2 : scatter_S153x10240x3_S120x1_S120x10240x3_12_0_0_1.window (ix3 b e k) 2 = k.val := by
    unfold ScatterDims.window
    rw [dif_pos (by decide)]
    rfl
  refine (Routing.resultIdx?_eq_some _ _ _ _).trans ⟨fun h => ?_, ?_⟩
  · have a0 := h 0
    have a1 := h 1
    have a2 := h 2
    rw [h0, w0] at a0
    rw [h1, w1] at a1
    rw [h2, w2] at a2
    change _ = (t.val : Int) at a0
    change _ = (e'.val : Int) at a1
    change _ = (k'.val : Int) at a2
    exact ⟨by omega, Fin.ext (by omega), Fin.ext (by omega)⟩
  · rintro ⟨p, rfl, rfl⟩ a
    have ha : a = 0 ∨ a = 1 ∨ a = 2 := by
      match a with
      | ⟨0, _⟩ => exact Or.inl rfl
      | ⟨1, _⟩ => exact Or.inr (Or.inl rfl)
      | ⟨2, _⟩ => exact Or.inr (Or.inr rfl)
    rcases ha with rfl | rfl | rfl
    · rw [h0, w0, p]
      exact add_zero _
    · rw [h1, w1]
      exact zero_add _
    · rw [h2, w2]
      exact zero_add _

/-- A row which names a slot of the table reads that slot. -/
theorem rGat_at (s : IVec S120 32) (v : FVec Ideal S153x10240x3 .bf16) (b : Fin 120) (t : Fin 153) (e : Fin 10240) (k : Fin 3) (hb : (s (ix1 b)).toInt = (t.val : Int)) :
    rGat s v (ix3 b e k) = v (ix3 t e k) := by
  have hi : (rIdx s (ix2 b 0)).toInt = (t.val : Int) := by rw [rIdx_at _ _ (by omega)]; exact hb
  unfold rGat Host.gather
  refine congrArg v (funext fun a => Fin.ext ?_)
  show gather_S153x10240x3_S120x1_S120x10240x3_12_0_n_n_0_1_1102403.start (ix3 b e k) (rIdx s) a
    + gather_S153x10240x3_S120x1_S120x10240x3_12_0_n_n_0_1_1102403.batchCoord (ix3 b e k) a
    + gather_S153x10240x3_S120x1_S120x10240x3_12_0_n_n_0_1_1102403.offCoord (ix3 b e k) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_pos (by decide), dif_neg (by decide)]
    have hsi : gather_S153x10240x3_S120x1_S120x10240x3_12_0_n_n_0_1_1102403.siIdx (ix3 b e k) ⟨List.idxOf 0 gather_S153x10240x3_S120x1_S120x10240x3_12_0_n_n_0_1_1102403.startIndexMap,
        List.idxOf_lt_length_iff.2 (by decide)⟩ = ix2 b 0 := by
      funext a
      refine Fin.ext ?_
      fin_cases a <;> rfl
    rw [hsi, hi]
    show min (t.val : Int).toNat 152 + 0 + 0 = t.val
    have := t.isLt
    omega
  · unfold GatherDims.start GatherDims.offCoord
    rw [dif_neg (by decide), dif_pos (by decide)]
    exact (Nat.zero_add _)
  · unfold GatherDims.start GatherDims.offCoord
    rw [dif_neg (by decide), dif_pos (by decide)]
    exact (Nat.zero_add _)

/-- The same of one number per row. -/
theorem lands_one (idx : IVec S120x1 32) (b : Fin 120) (t : Fin 153) :
    scatter_S153_S120x1_S120_n_0_0_1.resultIdx? (ix1 b) idx = some (ix1 t) ↔ (idx (ix2 b 0)).toInt = (t.val : Int) := by
  have h0 : scatter_S153_S120x1_S120_n_0_0_1.start (ix1 b) idx 0 = (idx (ix2 b 0)).toInt := by
    unfold ScatterDims.start
    rw [dif_pos (by decide)]
    refine congrArg (fun j => (idx j).toInt) (funext fun a => Fin.ext ?_)
    fin_cases a <;> rfl
  have w0 : scatter_S153_S120x1_S120_n_0_0_1.window (ix1 b) 0 = 0 := by
    unfold ScatterDims.window
    rw [dif_neg (by decide)]
  refine (Routing.resultIdx?_ix1 (N := 153) _ _ _ t).trans ?_
  rw [h0, w0]
  omega

/-- No two rows name one slot, and no row names a negative one. -/
structure Distinct (s : IVec S120 32) : Prop where
  inj : ∀ i j : Fin 120, s (ix1 i) = s (ix1 j) → i = j
  nonneg : ∀ i : Fin 120, 0 ≤ (s (ix1 i)).toInt

variable {s : IVec S120 32}

theorem Distinct.eq (h : Distinct s) {i j : Fin 120} {t : Fin 153} (hi : (s (ix1 i)).toInt = (t.val : Int)) (hj : (s (ix1 j)).toInt = (t.val : Int)) : i = j :=
  h.inj i j (BitVec.eq_of_toInt_eq (hi.trans hj.symm))

theorem rPut_hit (h : Distinct s) (v : FVec Ideal S153x10240 .f32) (n : FVec Ideal S120x10240 .f32) (b : Fin 120) (t : Fin 153) (e : Fin 10240) (hb : (s (ix1 b)).toInt = (t.val : Int)) :
    rPut s v n (ix2 t e) = n (ix2 b e) := by
  unfold rPut
  refine Routing.scatter_set_hit _ _ _ _ _ _ (fun k hk => ?_) (ix2 b e) ((lands_row _ _ _ _ _).mpr ⟨by rw [rIdx_at _ _ (h.nonneg _)]; exact hb, rfl⟩)
  idx_vars k
  obtain ⟨h0, rfl⟩ := (lands_row _ _ _ _ _).mp hk
  rw [rIdx_at _ _ (h.nonneg _)] at h0
  rw [h.eq h0 hb]

theorem rPut_miss (h : Distinct s) (v : FVec Ideal S153x10240 .f32) (n : FVec Ideal S120x10240 .f32) (t : Fin 153) (e : Fin 10240) (hb : ∀ b : Fin 120, (s (ix1 b)).toInt ≠ (t.val : Int)) :
    rPut s v n (ix2 t e) = v (ix2 t e) := by
  unfold rPut
  refine Routing.scatter_set_miss _ _ _ _ _ (fun k hk => ?_)
  idx_vars k
  obtain ⟨h0, -⟩ := (lands_row _ _ _ _ _).mp hk
  rw [rIdx_at _ _ (h.nonneg _)] at h0
  exact hb _ h0

theorem rPut3_hit (h : Distinct s) (v : FVec Ideal S153x10240x3 .bf16) (n : FVec Ideal S120x10240x3 .bf16) (b : Fin 120) (t : Fin 153) (e : Fin 10240) (k : Fin 3) (hb : (s (ix1 b)).toInt = (t.val : Int)) :
    rPut3 s v n (ix3 t e k) = n (ix3 b e k) := by
  unfold rPut3
  refine Routing.scatter_set_hit _ _ _ _ _ _ (fun j hj => ?_) (ix3 b e k) ((lands_row3 _ _ _ _ _ _ _).mpr ⟨by rw [rIdx_at _ _ (h.nonneg _)]; exact hb, rfl, rfl⟩)
  idx_vars j
  obtain ⟨h0, rfl, rfl⟩ := (lands_row3 _ _ _ _ _ _ _).mp hj
  rw [rIdx_at _ _ (h.nonneg _)] at h0
  rw [h.eq h0 hb]

theorem rPut3_miss (h : Distinct s) (v : FVec Ideal S153x10240x3 .bf16) (n : FVec Ideal S120x10240x3 .bf16) (t : Fin 153) (e : Fin 10240) (k : Fin 3) (hb : ∀ b : Fin 120, (s (ix1 b)).toInt ≠ (t.val : Int)) :
    rPut3 s v n (ix3 t e k) = v (ix3 t e k) := by
  unfold rPut3
  refine Routing.scatter_set_miss _ _ _ _ _ (fun j hj => ?_)
  idx_vars j
  obtain ⟨h0, -⟩ := (lands_row3 _ _ _ _ _ _ _).mp hj
  rw [rIdx_at _ _ (h.nonneg _)] at h0
  exact hb _ h0

theorem rOwn_hit (h : Distinct s) (b : Fin 120) (t : Fin 153) (hb : (s (ix1 b)).toInt = (t.val : Int)) :
    rOwn s (ix1 t) = BitVec.ofNat 32 b.val := by
  unfold rOwn
  refine Routing.scatter_set_hit _ _ _ _ _ _ (fun k hk => ?_) (ix1 b) ((lands_one _ _ _).mpr (by rw [rIdx_at _ _ (h.nonneg _)]; exact hb))
  idx_vars k
  have h0 := (lands_one _ _ _).mp hk
  rw [rIdx_at _ _ (h.nonneg _)] at h0
  rw [h.eq h0 hb]
  pointwise

theorem rOwn_miss (h : Distinct s) (t : Fin 153) (hb : ∀ b : Fin 120, (s (ix1 b)).toInt ≠ (t.val : Int)) :
    rOwn s (ix1 t) = 4294967295#32 := by
  unfold rOwn
  refine (Routing.scatter_set_miss _ _ _ _ _ (fun k hk => ?_)).trans ?_
  · idx_vars k
    have h0 := (lands_one _ _ _).mp hk
    rw [rIdx_at _ _ (h.nonneg _)] at h0
    exact hb _ h0
  · pointwise

end Cert.InSpec
end
-- ==== Proof.InPure.lean ====
module

public import proofs.«01_k».proof.Proof.InKit
public import proofs.«01_k».proof.Proof.InScatter
public import Idealize.ShloMosaic.Lib.Pointwise
public import Idealize.ShloMosaic.Lib.Pipeline.ValueKit

/-! # What one grid point stores, entry by entry, over the extended reals -/

@[expose] public section

set_option maxRecDepth 16384

noncomputable section

namespace Cert.InIdeal.Val
open Cert.InIdeal Cert.InIdeal.Gen Cert.InIdeal.Hand Idealize.ShloMosaic Idealize.ShloMosaic.TcCoe Cert.InSpec Cert.Quant

/-- The kernel's scale of each row is the reference's. -/
theorem scale_at (x : FVec Ideal S120x4096 .bf16) (X : FVec Ideal Cert.RefInIdeal.S120x1x4096 .bf16) (h : ∀ r d, x (ix2 r d) = X (ix3 r 0 d)) (r : Fin 120) (k : Fin 1) :
    k0_pay10 (F := Ideal) x (ix2 r k) = rScale X (ix3 r 0 0) := by
  unfold k0_pay10 k0_pay9 rScale rMax
  simp only [id_eq]
  pointwise
  simp only [h]

/-- The kernel's codes are the reference's. -/
theorem code_at (x : FVec Ideal S120x4096 .bf16) (X : FVec Ideal Cert.RefInIdeal.S120x1x4096 .bf16) (h : ∀ r d, x (ix2 r d) = X (ix3 r 0 d)) (r : Fin 120) (d : Fin 4096) :
    k0_pay12 (F := Ideal) x (ix2 r d) = rCode X (ix3 r 0 d) := by
  refine Eq.trans ?_ (rCode_at X r d).symm
  unfold k0_pay12 k0_pay11 k0_pay9
  pointwise
  rw [scale_at x X h, h]
  rfl

/-- The left operand of the product is the clipped, rounded quotient. -/
theorem xb_at (x : FVec Ideal S120x4096 .bf16) (X : FVec Ideal Cert.RefInIdeal.S120x1x4096 .bf16) (h : ∀ r d, x (ix2 r d) = X (ix3 r 0 d)) (r : Fin 120) (d : Fin 4096) :
    xbV (F := Ideal) x (ix2 ⟨r.val, by omega⟩ d) = q (Ideal.div (X (ix3 r 0 d)) (rScale X (ix3 r 0 0))) := by
  have hcov := xbL_cover (F := Ideal) x (ix2 ⟨r.val, by omega⟩ d)
  unfold xbV
  unfold xbL at hcov ⊢
  canon_tiles x h using hcov
  case piece0 =>
    exfalso
    have := r.isLt
    have h0' : r.val = 120 + (x 0).val := h0
    omega
  case piece1 =>
    idx_vars x
    obtain rfl : r = x0 := Fin.ext h0
    obtain rfl : d = x1 := Fin.ext h1
    unfold k0_pay13 k0_pay11 k0_pay9
    pointwise
    rw [scale_at _ X h, h]
    rfl

/-! ## The selection -/

/-- The row of slots the kernel reads: the slots, and −1 after them. -/
def Padded (p : IVec S1x128 32) (s : IVec Cert.RefInIdeal.S120 32) : Prop :=
  ∀ b : Fin 128, p (ix2 0 b) = if h : b.val < 120 then s (ix1 ⟨b.val, h⟩) else 4294967295#32

/-- A column of the row of slots names slot `t` exactly when it is one of the rows and that row names it. -/
theorem names_iff {p : IVec S1x128 32} {s : IVec Cert.RefInIdeal.S120 32} (hp : Padded p s) (t : Fin 153) (b : Fin 128) :
    p (ix2 0 b) = BitVec.ofNat 32 t.val ↔ ∃ h : b.val < 120, (s (ix1 ⟨b.val, h⟩)).toInt = (t.val : Int) := by
  have ht : (BitVec.ofNat 32 t.val).toInt = (t.val : Int) := by
    rw [BitVec.toInt_ofNat', Int.bmod_eq_of_le] <;> have := t.isLt <;> norm_num <;> omega
  rw [hp b]
  by_cases h : b.val < 120
  · rw [dif_pos h]
    exact ⟨fun e => ⟨h, by rw [e, ht]⟩, fun ⟨_, e⟩ => BitVec.eq_of_toInt_eq (e.trans ht.symm)⟩
  · rw [dif_neg h]
    refine ⟨fun e => ?_, fun ⟨h', _⟩ => absurd h' h⟩
    have := congrArg BitVec.toInt e
    rw [ht] at this
    have h1 : (4294967295#32 : BitVec 32).toInt = -1 := by decide
    omega

/-- An entry of the selection. -/
theorem sel_at (p : IVec S1x128 32) (t : Fin 153) (b : Fin 128) :
    k0_pay1 (F := Ideal) (k0_pay16 (F := Ideal) p) (ix2 t b) = if p (ix2 0 b) = BitVec.ofNat 32 t.val then (1 : EReal) else 0 := by
  unfold k0_pay1 k0_pay16 k0_pay15
  pointwise
  rw [WordCmp.cmpi_eq_eq]
  by_cases h : p (ix2 0 b) = BitVec.ofNat 32 t.val
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- The largest of numbers which are all −1. -/
theorem fold_none (f : Fin 128 → BitVec 32) (S : Finset (Fin 128)) (hf : ∀ x ∈ S, f x = 4294967295#32) :
    Finset.fold IntOp.maxsi (2147483648#32) f S = if S.Nonempty then 4294967295#32 else 2147483648#32 := by
  induction S using Finset.induction_on with
  | empty => rw [Finset.fold_empty, if_neg (by simp)]
  | insert a S ha ih =>
      rw [Finset.fold_insert ha, ih (fun x hx => hf x (Finset.mem_insert_of_mem hx)), hf a (Finset.mem_insert_self _ _), if_pos (Finset.insert_nonempty _ _)]
      by_cases h : S.Nonempty
      · rw [if_pos h]; decide
      · rw [if_neg h]; decide

/-- The largest of numbers of which one is its position and the others are −1. -/
theorem fold_one (f : Fin 128 → BitVec 32) (b : Fin 128) (hb : f b = BitVec.ofNat 32 b.val) (hf : ∀ x, x ≠ b → f x = 4294967295#32) :
    Finset.fold IntOp.maxsi (2147483648#32) f Finset.univ = BitVec.ofNat 32 b.val := by
  have h1 : ∀ b : Fin 128, IntOp.maxsi (BitVec.ofNat 32 b.val) 4294967295#32 = BitVec.ofNat 32 b.val := by decide
  have h2 : ∀ b : Fin 128, IntOp.maxsi (BitVec.ofNat 32 b.val) 2147483648#32 = BitVec.ofNat 32 b.val := by decide
  rw [← Finset.insert_erase (Finset.mem_univ b), Finset.fold_insert (Finset.notMem_erase b _),
    fold_none f _ (fun x hx => hf x (Finset.ne_of_mem_erase hx)), hb]
  split
  · exact h1 b
  · exact h2 b

/-- The owner of a slot, as the kernel computes it. -/
theorem own_fold (p : IVec S1x128 32) (t : Fin 153) (k : Fin 1) :
    k0_pay2 (k0_pay15 (F := Ideal) p) (ix2 t k) = Finset.fold IntOp.maxsi (2147483648#32)
      (fun x : Fin 128 => if p (ix2 0 x) = BitVec.ofNat 32 t.val then BitVec.ofNat 32 x.val else 4294967295#32) Finset.univ := by
  unfold k0_pay2 k0_pay15
  pointwise
  simp only [WordCmp.cmpi_eq_eq, WordCmp.select_decide]

/-- The owner of a slot is the reference's. -/
theorem own_eq {p : IVec S1x128 32} {s : IVec Cert.RefInIdeal.S120 32} (hp : Padded p s) (hs : Distinct s) (t : Fin 153) (k : Fin 1) :
    k0_pay2 (k0_pay15 (F := Ideal) p) (ix2 t k) = rOwn s (ix1 t) := by
  rw [own_fold]
  by_cases h : ∃ b : Fin 120, (s (ix1 b)).toInt = (t.val : Int)
  · obtain ⟨b, hb⟩ := h
    rw [rOwn_hit hs b t hb]
    refine fold_one _ ⟨b.val, by omega⟩ (if_pos ((names_iff hp t _).mpr ⟨b.isLt, hb⟩)) fun x hx => if_neg fun e => hx ?_
    obtain ⟨hx', e'⟩ := (names_iff hp t x).mp e
    have e2 : x.val = b.val := congrArg Fin.val (hs.eq e' hb)
    exact Fin.ext e2
  · rw [rOwn_miss hs t fun b hb => h ⟨b, hb⟩]
    refine (fold_none _ _ fun x _ => if_neg fun e => ?_).trans (if_pos Finset.univ_nonempty)
    obtain ⟨hx', e'⟩ := (names_iff hp t x).mp e
    exact h ⟨_, e'⟩

/-- The selected rows of the product's block, as the kernel computes them. -/
theorem pay17_at (z : FVec Ideal S120x512 .f32) (p : FVec Ideal S153x128 .bf16) (t : Fin 153) (e : Fin 512) :
    k0_pay17 (F := Ideal) z p (ix2 t e) = ∑ x : Fin 120, p (ix2 t ⟨x.val, by omega⟩) * z (ix2 x e) := by
  unfold k0_pay17
  pointwise
  simp only [mul_zero, Finset.sum_const_zero, add_zero]

/-- Of a slot which a row names they are that row's. -/
theorem col_hit {p : IVec S1x128 32} {s : IVec Cert.RefInIdeal.S120 32} (hp : Padded p s) (hs : Distinct s)
    (z : FVec Ideal S120x512 .f32) (b : Fin 120) (t : Fin 153) (hb : (s (ix1 b)).toInt = (t.val : Int)) (e : Fin 512) :
    k0_pay17 (F := Ideal) z (k0_pay1 (F := Ideal) (k0_pay16 (F := Ideal) p)) (ix2 t e) = z (ix2 b e) := by
  rw [pay17_at]
  simp only [sel_at]
  refine (Finset.sum_eq_single b (fun x _ hx => ?_) fun h => absurd (Finset.mem_univ b) h).trans ?_
  · rw [if_neg fun e => hx ?_, zero_mul]
    obtain ⟨hx', e'⟩ := (names_iff hp t _).mp e
    exact hs.eq e' hb
  · rw [if_pos ((names_iff hp t _).mpr ⟨b.isLt, hb⟩), one_mul]

/-- Of a slot which no row names they are zero. -/
theorem col_miss {p : IVec S1x128 32} {s : IVec Cert.RefInIdeal.S120 32} (hp : Padded p s)
    (z : FVec Ideal S120x512 .f32) (t : Fin 153) (hb : ∀ b : Fin 120, (s (ix1 b)).toInt ≠ (t.val : Int)) (e : Fin 512) :
    k0_pay17 (F := Ideal) z (k0_pay1 (F := Ideal) (k0_pay16 (F := Ideal) p)) (ix2 t e) = (0 : EReal) := by
  rw [pay17_at]
  simp only [sel_at]
  refine Finset.sum_eq_zero fun x _ => ?_
  rw [if_neg fun e => ?_, zero_mul]
  obtain ⟨hx', e'⟩ := (names_iff hp t _).mp e
  exact hb _ e'

/-! ## The convolution -/

theorem pl0_at (x : FVec Ideal S3x153x512 .bf16) (t : Fin 153) (e : Fin 512) : pl0 (F := Ideal) x (ix3 0 t e) = x (ix3 0 t e) :=
  congrArg x (funext fun a => Fin.ext (by fin_cases a <;> first | rfl | exact (Nat.zero_add _).trans (Nat.one_mul _)))
theorem pl1_at (x : FVec Ideal S3x153x512 .bf16) (t : Fin 153) (e : Fin 512) : pl1 (F := Ideal) x (ix3 0 t e) = x (ix3 1 t e) :=
  congrArg x (funext fun a => Fin.ext (by fin_cases a <;> first | rfl | exact (Nat.zero_add _).trans (Nat.one_mul _)))
theorem pl2_at (x : FVec Ideal S3x153x512 .bf16) (t : Fin 153) (e : Fin 512) : pl2 (F := Ideal) x (ix3 0 t e) = x (ix3 2 t e) :=
  congrArg x (funext fun a => Fin.ext (by fin_cases a <;> first | rfl | exact (Nat.zero_add _).trans (Nat.one_mul _)))
theorem tp0_at (w : FVec Ideal S4x512 .f32) (e : Fin 512) : tp0 (F := Ideal) w (ix2 0 e) = w (ix2 0 e) :=
  congrArg w (funext fun a => Fin.ext (by fin_cases a <;> first | rfl | exact (Nat.zero_add _).trans (Nat.one_mul _)))
theorem tp1_at (w : FVec Ideal S4x512 .f32) (e : Fin 512) : tp1 (F := Ideal) w (ix2 0 e) = w (ix2 1 e) :=
  congrArg w (funext fun a => Fin.ext (by fin_cases a <;> first | rfl | exact (Nat.zero_add _).trans (Nat.one_mul _)))
theorem tp2_at (w : FVec Ideal S4x512 .f32) (e : Fin 512) : tp2 (F := Ideal) w (ix2 0 e) = w (ix2 2 e) :=
  congrArg w (funext fun a => Fin.ext (by fin_cases a <;> first | rfl | exact (Nat.zero_add _).trans (Nat.one_mul _)))
theorem tp3_at (w : FVec Ideal S4x512 .f32) (e : Fin 512) : tp3 (F := Ideal) w (ix2 0 e) = w (ix2 3 e) :=
  congrArg w (funext fun a => Fin.ext (by fin_cases a <;> first | rfl | exact (Nat.zero_add _).trans (Nat.one_mul _)))

theorem pay19_at (x : FVec Ideal S1x153x512 .bf16) (t : Fin 153) (e : Fin 512) : k0_pay19 (F := Ideal) x (ix2 t e) = x (ix3 0 t e) := by
  unfold k0_pay19
  pointwise
theorem pay20_at (x : FVec Ideal S1x153x512 .bf16) (t : Fin 153) (e : Fin 512) : k0_pay20 (F := Ideal) x (ix2 t e) = x (ix3 0 t e) := by
  unfold k0_pay20
  pointwise
theorem pay21_at (x : FVec Ideal S1x153x512 .bf16) (t : Fin 153) (e : Fin 512) : k0_pay21 (F := Ideal) x (ix2 t e) = x (ix3 0 t e) := by
  unfold k0_pay21
  pointwise

/-- The silu of a number. -/
def silu (a : EReal) : EReal := a * Ideal.logistic a

/-- The convolved block, entry by entry. -/
theorem xc_at (z : FVec Ideal S120x512 .f32) (p : FVec Ideal S153x128 .bf16) (x : FVec Ideal S3x153x512 .bf16) (w : FVec Ideal S4x512 .f32) (b : FVec Ideal S1x512 .f32)
    (t : Fin 153) (e : Fin 512) :
    xcV (F := Ideal) z p x w b (ix2 t e) = silu (x (ix3 0 t e) * w (ix2 0 e) + x (ix3 1 t e) * w (ix2 1 e) + x (ix3 2 t e) * w (ix2 2 e)
      + k0_pay17 (F := Ideal) z p (ix2 t e) * w (ix2 3 e) + b (ix2 0 e)) := by
  unfold xcV k0_pay4 k0_pay22 k0_pay23 silu
  pointwise
  rw [pay19_at, pay20_at, pay21_at, pl0_at, pl1_at, pl2_at, tp0_at, tp1_at, tp2_at, tp3_at]

/-- The new window, entry by entry. -/
theorem cs_at (z : FVec Ideal S120x512 .f32) (p : FVec Ideal S153x128 .bf16) (v : IVec S153x1 32) (x : FVec Ideal S3x153x512 .bf16)
    (k : Fin 3) (t : Fin 153) (e : Fin 512) :
    csV (F := Ideal) z p v x (ix3 k t e) = if 0 ≤ (v (ix2 t 0)).toInt then
      (if h : k.val < 2 then x (ix3 ⟨1 + k.val, by omega⟩ t e) else k0_pay17 (F := Ideal) z p (ix2 t e)) else x (ix3 k t e) := by
  unfold csV csL
  canon_tiles y h
  case piece0 =>
    idx_vars y
    obtain rfl : t = y1 := Fin.ext h1
    obtain rfl : e = y2 := Fin.ext h2
    obtain rfl : k = 2 := Fin.ext (by omega)
    obtain rfl : y0 = 0 := Subsingleton.elim _ _
    unfold k0_pay7 k0_pay18
    pointwise
    rw [WordCmp.cmpi_sge_eq, WordCmp.select_decide, pay21_at, pl2_at]
    rfl
  case piece1 =>
    idx_vars y
    obtain rfl : t = y1 := Fin.ext h1
    obtain rfl : e = y2 := Fin.ext h2
    obtain rfl : k = 1 := Fin.ext (by omega)
    obtain rfl : y0 = 0 := Subsingleton.elim _ _
    unfold k0_pay6 k0_pay18
    pointwise
    rw [WordCmp.cmpi_sge_eq, WordCmp.select_decide, pay20_at, pay21_at, pl1_at, pl2_at]
    rfl
  case piece2 =>
    idx_vars y
    obtain rfl : t = y1 := Fin.ext h1
    obtain rfl : e = y2 := Fin.ext h2
    obtain rfl : k = 0 := Fin.ext (by omega)
    obtain rfl : y0 = 0 := Subsingleton.elim _ _
    unfold k0_pay5 k0_pay18
    pointwise
    rw [WordCmp.cmpi_sge_eq, WordCmp.select_decide, pay19_at, pay20_at, pl0_at, pl1_at]
    rfl

/-- The time steps, entry by entry. -/
theorem dt_at (w : IVec S512x4096 8) (x : FVec Ideal S128x4096 .bf16) (s : FVec Ideal S120x1 .f32) (u : FVec Ideal S1x512 .f32) (b : FVec Ideal S1x64 .f32)
    (r : Fin 120) (k : Fin 64) :
    k0_pay8 (F := Ideal) w x s u b (ix2 r k) = softplus (k0_pay3 (F := Ideal) w x s u (ix2 r ⟨k.val, by omega⟩) + b (ix2 0 k)) := by
  unfold k0_pay8 softplus
  pointwise

end Cert.InIdeal.Val
end
-- ==== Proof.InBlocks.lean ====
module

public import proofs.«01_k».proof.Proof.InRun
public import proofs.«01_k».proof.Proof.InPure

/-! # The blocks the grid points read, and the rescaled product's block at a point -/

@[expose] public section

set_option maxRecDepth 16384

noncomputable section

namespace Cert.InIdeal.Val
open Cert.InIdeal Cert.InIdeal.Gen Cert.InIdeal.Hand Idealize.ShloMosaic Idealize.ShloMosaic.TcCoe Cert.InSpec Cert.Quant
open Idealize.ShloMosaic.Pipeline (Dat Window)

variable (m : (ℓ : Loc nD τ sig) → Buf (Elt Ideal) ℓ)

theorem idx : ∀ t : Fin cfg0.N, win0_0.index t = ![0, 0] ∧ win0_1.index t = ![0, 0] ∧ win0_2.index t = ![t.val, 0] ∧ win0_3.index t = ![0, t.val]
    ∧ win0_4.index t = ![0, 0, min (t.val - 16) 19] ∧ win0_5.index t = ![0, min (t.val - 16) 19] ∧ win0_6.index t = ![0, min (t.val - 16) 19]
    ∧ win0_7.index t = ![0, 0] ∧ win0_8.index t = ![0, min t.val 15] ∧ win0_9.index t = ![0, min (t.val - 16) 19]
    ∧ win0_10.index t = ![0, 0, min (t.val - 16) 19] ∧ win0_11.index t = ![0, 0] ∧ win0_12.index t = ![0, 0] ∧ win0_13.index t = ![0, 0]
    ∧ win0_14.index t = ![0, 0] :=
  (by decide +kernel : ∀ t : Fin grid0.N, _)

/-! ## The arguments -/

abbrev a0 (c : Dev nD) : FVec Ideal Cert.RefInIdeal.S120x1x4096 .bf16 := m ((c : Thread nD τ).loc main_arg0)
abbrev a1 (c : Dev nD) : IVec Cert.RefInIdeal.S120 32 := m ((c : Thread nD τ).loc main_arg1)
abbrev a2 (c : Dev nD) : IVec Cert.RefInIdeal.S4096x18496 8 := m ((c : Thread nD τ).loc main_arg2)
abbrev a3 (c : Dev nD) : FVec Ideal Cert.RefInIdeal.S18496 .f32 := m ((c : Thread nD τ).loc main_arg3)
abbrev a4 (c : Dev nD) : FVec Ideal Cert.RefInIdeal.S153x10240x3 .bf16 := m ((c : Thread nD τ).loc main_arg4)
abbrev a5 (c : Dev nD) : FVec Ideal Cert.RefInIdeal.S10240x4 .f32 := m ((c : Thread nD τ).loc main_arg5)
abbrev a6 (c : Dev nD) : FVec Ideal Cert.RefInIdeal.S10240 .f32 := m ((c : Thread nD τ).loc main_arg6)
abbrev a7 (c : Dev nD) : FVec Ideal Cert.RefInIdeal.S64 .f32 := m ((c : Thread nD τ).loc main_arg7)

/-! ## The arrays the host operations before the region leave -/

theorem V_v1 (c : Dev nD) : (V m c main_v1 : IVec S1x128 32) = broadcastInDim S1x128 ![1] bcast_S128_S1x128_1 (pad S128 ![0] ![8] ![0] (a1 m c) (id (constantI S_ 32 4294967295#32)) pads_S120_S128_080 h_S_) := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v2 (c : Dev nD) : (V m c main_v2 : FVec Ideal S120x4096 .bf16) = shapeCast S120x4096 (a0 m c) shapeCasts_S120x1x4096_S120x4096 := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v3 (c : Dev nD) : (V m c main_v3 : IVec S18496x4096 8) = transpose S18496x4096 [1, 0] (a2 m c) transposes_S4096x18496_S18496x4096_1_0 := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v4 (c : Dev nD) : (V m c main_v4 : FVec Ideal S1x18496 .f32) = broadcastInDim S1x18496 ![1] bcast_S18496_S1x18496_1 (a3 m c) := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v5 (c : Dev nD) : (V m c main_v5 : FVec Ideal S3x153x10240 .bf16) = transpose S3x153x10240 [2, 0, 1] (a4 m c) transposes_S153x10240x3_S3x153x10240_2_0_1 := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v6 (c : Dev nD) : (V m c main_v6 : FVec Ideal S4x10240 .f32) = transpose S4x10240 [1, 0] (a5 m c) transposes_S10240x4_S4x10240_1_0 := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v7 (c : Dev nD) : (V m c main_v7 : FVec Ideal S1x10240 .f32) = broadcastInDim S1x10240 ![1] bcast_S10240_S1x10240_1 (a6 m c) := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl
theorem V_v8 (c : Dev nD) : (V m c main_v8 : FVec Ideal S1x64 .f32) = broadcastInDim S1x64 ![1] bcast_S64_S1x64_1 (a7 m c) := by
  show StableHlo.after _ _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem V2_at (c : Dev nD) (r : Fin 120) (d : Fin 4096) : (V m c main_v2 : FVec Ideal S120x4096 .bf16) (ix2 r d) = a0 m c (ix3 r 0 d) := by
  rw [V_v2]
  pointwise

/-- The slots, padded with −1. -/
theorem pad_at (s : IVec S120 32) (b : Fin 128) :
    (broadcastInDim S1x128 ![1] bcast_S128_S1x128_1 (pad S128 ![0] ![8] ![0] s (id (constantI S_ 32 4294967295#32)) pads_S120_S128_080 h_S_)) (ix2 0 b)
      = if h : b.val < 120 then s (ix1 ⟨b.val, h⟩) else 4294967295#32 := by
  simp only [id_eq]
  pointwise

theorem V3_at (c : Dev nD) (k : Fin 18496) (y : Fin 4096) : (V m c main_v3 : IVec S18496x4096 8) (ix2 k y) = a2 m c (ix2 y k) := by
  rw [V_v3]
  pointwise
theorem V4_at (c : Dev nD) (k : Fin 18496) : (V m c main_v4 : FVec Ideal S1x18496 .f32) (ix2 0 k) = a3 m c (ix1 k) := by
  rw [V_v4]
  pointwise
theorem V5_at (c : Dev nD) (k : Fin 3) (s : Fin 153) (e : Fin 10240) : (V m c main_v5 : FVec Ideal S3x153x10240 .bf16) (ix3 k s e) = a4 m c (ix3 s e k) := by
  rw [V_v5]
  pointwise
theorem V6_at (c : Dev nD) (k : Fin 4) (e : Fin 10240) : (V m c main_v6 : FVec Ideal S4x10240 .f32) (ix2 k e) = a5 m c (ix2 e k) := by
  rw [V_v6]
  pointwise
theorem V7_at (c : Dev nD) (e : Fin 10240) : (V m c main_v7 : FVec Ideal S1x10240 .f32) (ix2 0 e) = a6 m c (ix1 e) := by
  rw [V_v7]
  pointwise
theorem V8_at (c : Dev nD) (k : Fin 64) : (V m c main_v8 : FVec Ideal S1x64 .f32) (ix2 0 k) = a7 m c (ix1 k) := by
  rw [V_v8]
  pointwise

/-! ## The blocks -/

theorem iblk0 (c : Dev nD) (t : Fin cfg0.N) (r : Fin 120) (d : Fin 4096) : (iblk m c 0 t : FVec Ideal S120x4096 .bf16) (ix2 r d) = a0 m c (ix3 r 0 d) := by
  refine Eq.trans ?_ (V2_at m c r d)
  refine congrArg (V m c main_v2) ?_
  blk_ext [idx t]

theorem iblk1 (c : Dev nD) (t : Fin cfg0.N) : Padded (iblk m c 1 t : IVec S1x128 32) (a1 m c) := by
  intro b
  refine Eq.trans ?_ (pad_at (a1 m c) b)
  rw [← V_v1 m c]
  refine congrArg (V m c main_v1) ?_
  blk_ext [idx t]

theorem iblk4 (c : Dev nD) (t : Fin cfg0.N) (k : Fin 3) (s : Fin 153) (e : Fin 512) (h : min (t.val - 16) 19 * 512 + e.val < 10240) :
    (iblk m c 4 t : FVec Ideal S3x153x512 .bf16) (ix3 k s e) = a4 m c (ix3 s ⟨min (t.val - 16) 19 * 512 + e.val, h⟩ k) := by
  refine Eq.trans ?_ (V5_at m c k s _)
  refine congrArg (V m c main_v5) ?_
  blk_ext [idx t]

theorem iblk5 (c : Dev nD) (t : Fin cfg0.N) (k : Fin 4) (e : Fin 512) (h : min (t.val - 16) 19 * 512 + e.val < 10240) :
    (iblk m c 5 t : FVec Ideal S4x512 .f32) (ix2 k e) = a5 m c (ix2 ⟨min (t.val - 16) 19 * 512 + e.val, h⟩ k) := by
  refine Eq.trans ?_ (V6_at m c k _)
  refine congrArg (V m c main_v6) ?_
  blk_ext [idx t]

theorem iblk6 (c : Dev nD) (t : Fin cfg0.N) (e : Fin 512) (h : min (t.val - 16) 19 * 512 + e.val < 10240) :
    (iblk m c 6 t : FVec Ideal S1x512 .f32) (ix2 0 e) = a6 m c (ix1 ⟨min (t.val - 16) 19 * 512 + e.val, h⟩) := by
  refine Eq.trans ?_ (V7_at m c _)
  refine congrArg (V m c main_v7) ?_
  blk_ext [idx t]

theorem iblk7 (c : Dev nD) (t : Fin cfg0.N) (k : Fin 64) : (iblk m c 7 t : FVec Ideal S1x64 .f32) (ix2 0 k) = a7 m c (ix1 k) := by
  refine Eq.trans ?_ (V8_at m c k)
  refine congrArg (V m c main_v8) ?_
  blk_ext [idx t]

/-! ## The weight's blocks: the last one reaches past the array -/

theorem xsz2 : ∀ t : Fin cfg0.N, win0_2.xsize (grid0.coords t) = ![min 512 (18496 - t.val * 512), 4096] :=
  (by decide +kernel : ∀ t : Fin grid0.N, _)
theorem xsz3 : ∀ t : Fin cfg0.N, win0_3.xsize (grid0.coords t) = ![1, min 512 (18496 - t.val * 512)] :=
  (by decide +kernel : ∀ t : Fin grid0.N, _)

theorem wA_at (c : Dev nD) (t : Fin cfg0.N) (k : Fin 512) (y : Fin 4096) (h : t.val * 512 + k.val < 18496) :
    wA m c t (ix2 k y) = a2 m c (ix2 y ⟨t.val * 512 + k.val, h⟩) := by
  have hm : win0_2.moved (grid0.coords t) (ix2 k y) = true := (win0_2.moved_iff _ _).mpr fun a => by
    rw [xsz2 t]
    fin_cases a
    · show k.val < min 512 (18496 - t.val * 512)
      omega
    · exact y.isLt
  unfold wA Window.fill
  rw [dif_pos hm]
  refine Eq.trans ?_ (V3_at m c _ y)
  refine congrArg (V m c main_v3) ?_
  blk_ext [idx t]

theorem wsA_at (c : Dev nD) (t : Fin cfg0.N) (k : Fin 512) (h : t.val * 512 + k.val < 18496) :
    wsA m c t (ix2 0 k) = a3 m c (ix1 ⟨t.val * 512 + k.val, h⟩) := by
  have hm : win0_3.moved (grid0.coords t) (ix2 0 k) = true := (win0_3.moved_iff _ _).mpr fun a => by
    rw [xsz3 t]
    fin_cases a
    · exact Nat.zero_lt_one
    · show k.val < min 512 (18496 - t.val * 512)
      omega
  unfold wsA Window.fill
  rw [dif_pos hm]
  refine Eq.trans ?_ (V4_at m c _)
  refine congrArg (V m c main_v4) ?_
  blk_ext [idx t]

/-! ## The product -/

/-- The reference's rescaled product of the kernel's arguments. -/
abbrev pR (c : Dev nD) : FVec Ideal Cert.RefInIdeal.S120x18496 .f32 := rZx (rCode (a0 m c)) (rScale (a0 m c)) (a2 m c) (a3 m c)

/-- A one-byte integer read directly or through a wider integer is the same number. -/
theorem widen_eq (b : BitVec 8) : FloatOps.sitofp (F := Ideal) .bf16 b = FloatOps.sitofp (F := Ideal) .f32 (BitVec.signExtend 32 b) := by
  show ((b.toInt : ℝ) : EReal) = (((BitVec.signExtend 32 b).toInt : ℝ) : EReal)
  rw [BitVec.toInt_signExtend_of_le (by norm_num)]

/-- One entry of the product's block of columns at a point. -/
theorem zA_at (c : Dev nD) (t : Fin cfg0.N) (r : Fin 120) (k : Fin 512) (h : t.val * 512 + k.val < 18496) :
    zA m c t (ix2 r k) = pR m c (ix2 r ⟨t.val * 512 + k.val, h⟩) := by
  refine Eq.trans ?_ (rZx_at _ _ _ _ r _).symm
  have hx : ∀ r d, (iblk m c 0 t0 : FVec Ideal S120x4096 .bf16) (ix2 r d) = a0 m c (ix3 r 0 d) := fun r d => iblk0 m c t0 r d
  unfold zA
  refine (pay3_apply _ _ _ _ r k).trans ?_
  rw [wsA_at m c t k h]
  unfold scA xbA
  rw [scale_at _ (a0 m c) hx r 0]
  refine congrArg (fun a : EReal => a * rScale (a0 m c) (ix3 r 0 0) * a3 m c (ix1 ⟨t.val * 512 + k.val, h⟩)) (Finset.sum_congr rfl fun y _ => ?_)
  rw [xb_at _ (a0 m c) hx r y, wA_at m c t k y h, rCode_at, code_back, widen_eq]

end Cert.InIdeal.Val
end
-- ==== Proof.InValue.lean ====
module

public import proofs.«01_k».proof.Proof.InBlocks

/-! # The arrays the input projection leaves are the reference's -/

@[expose] public section

set_option maxRecDepth 16384

noncomputable section

namespace Cert.InIdeal.Val
open Cert.InIdeal Cert.InIdeal.Gen Cert.InIdeal.Hand Idealize.ShloMosaic Idealize.ShloMosaic.TcCoe Cert.InSpec Cert.Quant
open Idealize.ShloMosaic.Pipeline (Dat Window)

variable (m : (ℓ : Loc nD τ sig) → Buf (Elt Ideal) ℓ)

/-- The windows of the rows, the reference's term. -/
abbrev uR (c : Dev nD) : FVec Ideal Cert.RefInIdeal.S120x10240x4 .bf16 := rWin (rGat (a1 m c) (a4 m c)) (rXb (pR m c))
/-- The seven results, the reference's terms. -/
abbrev g0 (c : Dev nD) : FVec Ideal Cert.RefInIdeal.S120x8192 .f32 := rZ (pR m c)
abbrev g1 (c : Dev nD) : FVec Ideal Cert.RefInIdeal.S153x10240 .f32 := rPut (a1 m c) (rSiluS (rIdle (a4 m c) (a5 m c) (a6 m c))) (rSilu (rConv (uR m c) (a5 m c) (a6 m c)))
abbrev g2 (c : Dev nD) : FVec Ideal Cert.RefInIdeal.S3x153x10240 .bf16 := rNew (a1 m c) (uR m c) (a4 m c)
abbrev g3 (c : Dev nD) : FVec Ideal Cert.RefInIdeal.S120x64 .f32 := rSoftplus (rPre (pR m c) (a7 m c))
abbrev g4 (c : Dev nD) : IVec Cert.RefInIdeal.S120x4096 8 := shapeCast Cert.RefInIdeal.S120x4096 (rCode (a0 m c)) Cert.RefInIdeal.Gen.shapeCasts_S120x1x4096_S120x4096
abbrev g5 (c : Dev nD) : FVec Ideal Cert.RefInIdeal.S120x1 .f32 := shapeCast Cert.RefInIdeal.S120x1 (rScale (a0 m c)) Cert.RefInIdeal.Gen.shapeCasts_S120x1x1_S120x1
abbrev g6 (c : Dev nD) : IVec Cert.RefInIdeal.S153x1 32 := broadcastInDim Cert.RefInIdeal.S153x1 ![0] Cert.RefInIdeal.Gen.bcast_S153_S153x1_0 (rOwn (a1 m c))

/-! ## The small results -/

theorem g4_at (c : Dev nD) (r : Fin 120) (d : Fin 4096) : g4 m c (ix2 r d) = rCode (a0 m c) (ix3 r 0 d) := by
  unfold g4
  generalize rCode (a0 m c) = G
  pointwise
theorem g5_at (c : Dev nD) (r : Fin 120) (k : Fin 1) : g5 m c (ix2 r k) = rScale (a0 m c) (ix3 r 0 0) := by
  unfold g5
  generalize rScale (a0 m c) = G
  pointwise
theorem g6_at (c : Dev nD) (s : Fin 153) (k : Fin 1) : g6 m c (ix2 s k) = rOwn (a1 m c) (ix1 s) := by
  unfold g6
  generalize rOwn (a1 m c) = G
  pointwise

theorem cdA_eq (c : Dev nD) : cdA m c = g4 m c := by
  funext j
  idx_vars j
  unfold cdA
  exact (code_at _ (a0 m c) (fun r d => iblk0 m c t0 r d) j0 j1).trans (g4_at m c j0 j1).symm
theorem scA_eq (c : Dev nD) : scA m c = g5 m c := by
  funext j
  idx_vars j
  unfold scA
  exact (scale_at _ (a0 m c) (fun r d => iblk0 m c t0 r d) j0 j1).trans (g5_at m c j0 j1).symm
theorem ivA_at (c : Dev nD) (hs : Distinct (a1 m c)) (s : Fin 153) (k : Fin 1) : ivA m c (ix2 s k) = rOwn (a1 m c) (ix1 s) := by
  unfold ivA
  exact own_eq (iblk1 m c t0) hs s k
theorem ivA_eq (c : Dev nD) (hs : Distinct (a1 m c)) : ivA m c = g6 m c := by
  funext j
  idx_vars j
  exact (ivA_at m c hs j0 j1).trans (g6_at m c j0 j1).symm
theorem dtA_eq (c : Dev nD) : dtA m c = g3 m c := by
  funext j
  idx_vars j
  unfold dtA
  have hj := j1.isLt
  have h : t36.val * 512 + (⟨j1.val, by omega⟩ : Fin 512).val < 18496 := by
    show 36 * 512 + j1.val < 18496
    omega
  have e := zA_at m c t36 j0 ⟨j1.val, by omega⟩ h
  unfold zA at e
  refine (dt_at _ _ _ _ _ j0 j1).trans ?_
  rw [e, iblk7 m c t36 j1]
  refine Eq.trans ?_ (rSoftplus_at _ j0 j1).symm
  rw [rPre_at]
  refine congrArg (fun i => softplus (pR m c (ix2 j0 i) + a7 m c (ix1 j1))) (Fin.ext ?_)
  show 36 * 512 + j1.val = 18432 + j1.val
  omega

/-! ## The blocks of the convolution -/

/-- A point's new columns, of a slot which a row names. -/
theorem colA_hit (c : Dev nD) (hs : Distinct (a1 m c)) (t : Fin cfg0.N) (h16 : 16 ≤ t.val) (h36 : t.val < 36) (b : Fin 120) (s : Fin 153)
    (hb : (a1 m c (ix1 b)).toInt = (s.val : Int)) (e : Fin 512) (h : min (t.val - 16) 19 * 512 + e.val < 10240) :
    k0_pay17 (F := Ideal) (zA m c t) (slA m c) (ix2 s e) = rXb (pR m c) (ix2 b ⟨min (t.val - 16) 19 * 512 + e.val, h⟩) := by
  unfold slA
  refine (col_hit (iblk1 m c t0) hs _ b s hb e).trans ?_
  have he := e.isLt
  refine (zA_at m c t b e (by omega)).trans (Eq.trans ?_ (rXb_at _ b _).symm)
  refine congrArg (fun i => pR m c (ix2 b i)) (Fin.ext ?_)
  show t.val * 512 + e.val = 8192 + (min (t.val - 16) 19 * 512 + e.val)
  omega

/-- And of one which no row names. -/
theorem colA_miss (c : Dev nD) (t : Fin cfg0.N) (s : Fin 153) (hb : ∀ b : Fin 120, (a1 m c (ix1 b)).toInt ≠ (s.val : Int)) (e : Fin 512) :
    k0_pay17 (F := Ideal) (zA m c t) (slA m c) (ix2 s e) = (0 : EReal) := by
  unfold slA
  exact col_miss (iblk1 m c t0) _ s hb e

theorem win0_at (v : FVec Ideal Cert.RefInIdeal.S120x10240x3 .bf16) (n : FVec Ideal Cert.RefInIdeal.S120x10240 .bf16) (r : Fin 120) (e : Fin 10240) :
    rWin v n (ix3 r e 0) = v (ix3 r e 0) := rWin_old v n r e 0
theorem win1_at (v : FVec Ideal Cert.RefInIdeal.S120x10240x3 .bf16) (n : FVec Ideal Cert.RefInIdeal.S120x10240 .bf16) (r : Fin 120) (e : Fin 10240) :
    rWin v n (ix3 r e 1) = v (ix3 r e 1) := rWin_old v n r e 1
theorem win2_at (v : FVec Ideal Cert.RefInIdeal.S120x10240x3 .bf16) (n : FVec Ideal Cert.RefInIdeal.S120x10240 .bf16) (r : Fin 120) (e : Fin 10240) :
    rWin v n (ix3 r e 2) = v (ix3 r e 2) := rWin_old v n r e 2

theorem xcA_at (c : Dev nD) (hs : Distinct (a1 m c)) (t : Fin cfg0.N) (h16 : 16 ≤ t.val) (h36 : t.val < 36) (s : Fin 153) (e : Fin 512)
    (h : min (t.val - 16) 19 * 512 + e.val < 10240) :
    xcA m c t (ix2 s e) = g1 m c (ix2 s ⟨min (t.val - 16) 19 * 512 + e.val, h⟩) := by
  unfold xcA
  refine (xc_at _ _ _ _ _ s e).trans ?_
  rw [iblk4 m c t 0 s e h, iblk4 m c t 1 s e h, iblk4 m c t 2 s e h,
    iblk5 m c t 0 e h, iblk5 m c t 1 e h, iblk5 m c t 2 e h, iblk5 m c t 3 e h, iblk6 m c t e h]
  by_cases hb : ∃ b : Fin 120, (a1 m c (ix1 b)).toInt = (s.val : Int)
  · obtain ⟨b, hb⟩ := hb
    refine Eq.trans ?_ (rPut_hit hs _ _ b s _ hb).symm
    refine Eq.trans ?_ (rSilu_at _ b _).symm
    rw [colA_hit m c hs t h16 h36 b s hb e h]
    unfold uR
    rw [rConv_at, win0_at, win1_at, win2_at, rWin_new, rGat_at _ _ b s _ _ hb, rGat_at _ _ b s _ _ hb, rGat_at _ _ b s _ _ hb]
    rfl
  · have hb' : ∀ b : Fin 120, (a1 m c (ix1 b)).toInt ≠ (s.val : Int) := fun b h => hb ⟨b, h⟩
    refine Eq.trans ?_ (rPut_miss hs _ _ s _ hb').symm
    refine Eq.trans ?_ (rSiluS_at _ s _).symm
    rw [colA_miss m c t s hb' e, zero_mul, add_zero, rIdle_at]
    rfl

theorem csA_at (c : Dev nD) (hs : Distinct (a1 m c)) (t : Fin cfg0.N) (h16 : 16 ≤ t.val) (h36 : t.val < 36) (k : Fin 3) (s : Fin 153) (e : Fin 512)
    (h : min (t.val - 16) 19 * 512 + e.val < 10240) :
    csA m c t (ix3 k s e) = g2 m c (ix3 k s ⟨min (t.val - 16) 19 * 512 + e.val, h⟩) := by
  unfold csA
  refine (cs_at _ _ _ _ k s e).trans (Eq.trans ?_ (rNew_at _ _ _ k s _).symm)
  rw [ivA_at m c hs s 0, iblk4 m c t k s e h]
  by_cases hb : ∃ b : Fin 120, (a1 m c (ix1 b)).toInt = (s.val : Int)
  · obtain ⟨b, hb⟩ := hb
    have hn : ∀ b : Fin 120, 0 ≤ (BitVec.ofNat 32 b.val).toInt := by decide
    rw [rOwn_hit hs b s hb, if_pos (hn b), rPut3_hit hs _ _ b s _ k hb, rLast_at]
    unfold uR
    by_cases hk : k.val < 2
    · rw [dif_pos hk, iblk4 m c t ⟨1 + k.val, by omega⟩ s e h]
      exact (rGat_at _ _ b s _ ⟨1 + k.val, by omega⟩ hb).symm.trans (rWin_old _ _ b _ ⟨1 + k.val, by omega⟩).symm
    · obtain rfl : k = 2 := Fin.ext (by have := k.isLt; show k.val = 2; omega)
      rw [dif_neg hk, colA_hit m c hs t h16 h36 b s hb e h]
      exact (rWin_new _ _ b _).symm
  · have hb' : ∀ b : Fin 120, (a1 m c (ix1 b)).toInt ≠ (s.val : Int) := fun b h => hb ⟨b, h⟩
    rw [rOwn_miss hs s hb', if_neg (by decide), rPut3_miss hs _ _ s _ k hb']

/-! ## The arrays after the run -/

theorem final8 (c : Dev nD) : (dats m 0 c).arrAt 8 (cfgs 0).N = g0 m c := by
  refine (dats m 0 c).arrAt_eq_of_covers 8 _ (by decide +kernel) fun t _ y => ?_
  have h1 : (y 1).val < 512 := (y 1).isLt
  have hp : (p8 t).val = min t.val 15 := rfl
  have h2 : (p8 t).val * 512 + (y 1).val < 18496 := by rw [hp]; omega
  have h3 : (p8 t).val * 512 + (y 1).val < 8192 := by rw [hp]; omega
  have e : zA m c (p8 t) (ix2 (y 0) (y 1)) = g0 m c (ix2 (y 0) ⟨(p8 t).val * 512 + (y 1).val, h3⟩) := (zA_at m c (p8 t) (y 0) (y 1) h2).trans
    (rZ_at (pR m c) (y 0) ⟨(p8 t).val * 512 + (y 1).val, h3⟩).symm
  simp only [hp] at e
  blk_simp
  rw [after0_8]
  revert e
  generalize g0 m c = G
  generalize zA m c (p8 t) = H
  intro e
  have e0 : H y = H (ix2 (y 0) (y 1)) := congrArg H (by funext a; fin_cases a <;> rfl)
  refine e0.trans (e.trans (congrArg G ?_))
  blk_ext [idx t]

theorem final9 (c : Dev nD) (hs : Distinct (a1 m c)) : (dats m 0 c).arrAt 9 (cfgs 0).N = g1 m c := by
  refine (dats m 0 c).arrAt_eq_of_covers 9 _ (by decide +kernel) fun t _ y => ?_
  have h1 : (y 1).val < 512 := (y 1).isLt
  have hv : (p9 t).val - 16 = t.val - 16 ∨ 19 ≤ (p9 t).val - 16 ∧ 19 ≤ t.val - 16 := by
    show min (max t.val 16) 35 - 16 = _ ∨ 19 ≤ min (max t.val 16) 35 - 16 ∧ _
    omega
  have hp : min ((p9 t).val - 16) 19 = min (t.val - 16) 19 := by omega
  have e := xcA_at m c hs (p9 t) (by show 16 ≤ min (max t.val 16) 35; omega) (by show min (max t.val 16) 35 < 36; omega) (y 0) (y 1) (by omega)
  simp only [hp] at e
  blk_simp
  rw [after0_9]
  revert e
  generalize g1 m c = G
  generalize xcA m c (p9 t) = H
  intro e
  have e0 : H y = H (ix2 (y 0) (y 1)) := congrArg H (by funext a; fin_cases a <;> rfl)
  refine e0.trans (e.trans (congrArg G ?_))
  blk_ext [idx t]

theorem final10 (c : Dev nD) (hs : Distinct (a1 m c)) : (dats m 0 c).arrAt 10 (cfgs 0).N = g2 m c := by
  refine (dats m 0 c).arrAt_eq_of_covers 10 _ (by decide +kernel) fun t _ y => ?_
  have h1 : (y 2).val < 512 := (y 2).isLt
  have hv : (p9 t).val - 16 = t.val - 16 ∨ 19 ≤ (p9 t).val - 16 ∧ 19 ≤ t.val - 16 := by
    show min (max t.val 16) 35 - 16 = _ ∨ 19 ≤ min (max t.val 16) 35 - 16 ∧ _
    omega
  have hp : min ((p9 t).val - 16) 19 = min (t.val - 16) 19 := by omega
  have e := csA_at m c hs (p9 t) (by show 16 ≤ min (max t.val 16) 35; omega) (by show min (max t.val 16) 35 < 36; omega) (y 0) (y 1) (y 2) (by omega)
  simp only [hp] at e
  blk_simp
  rw [after0_10]
  revert e
  generalize g2 m c = G
  generalize csA m c (p9 t) = H
  intro e
  have e0 : H y = H (ix3 (y 0) (y 1) (y 2)) := congrArg H (by funext a; fin_cases a <;> rfl)
  refine e0.trans (e.trans (congrArg G ?_))
  blk_ext [idx t]

theorem final11 (c : Dev nD) : (dats m 0 c).arrAt 11 (cfgs 0).N = g3 m c := by
  refine (dats m 0 c).arrAt_eq_of_covers 11 _ (by decide +kernel) fun t _ y => ?_
  blk_simp
  rw [after0_11, dtA_eq]
  generalize g3 m c = G
  refine congrArg G ?_
  blk_ext [idx t]

theorem final12 (c : Dev nD) : (dats m 0 c).arrAt 12 (cfgs 0).N = g4 m c := by
  refine (dats m 0 c).arrAt_eq_of_covers 12 _ (by decide +kernel) fun t _ y => ?_
  blk_simp
  rw [after0_12, cdA_eq]
  generalize g4 m c = G
  refine congrArg G ?_
  blk_ext [idx t]

theorem final13 (c : Dev nD) : (dats m 0 c).arrAt 13 (cfgs 0).N = g5 m c := by
  refine (dats m 0 c).arrAt_eq_of_covers 13 _ (by decide +kernel) fun t _ y => ?_
  blk_simp
  rw [after0_13, scA_eq]
  generalize g5 m c = G
  refine congrArg G ?_
  blk_ext [idx t]

theorem final14 (c : Dev nD) (hs : Distinct (a1 m c)) : (dats m 0 c).arrAt 14 (cfgs 0).N = g6 m c := by
  refine (dats m 0 c).arrAt_eq_of_covers 14 _ (by decide +kernel) fun t _ y => ?_
  blk_simp
  rw [after0_14, ivA_eq m c hs]
  generalize g6 m c = G
  refine congrArg G ?_
  blk_ext [idx t]

/-- The run of the kernel's program: the seven results are the reference's terms of the arguments. -/
theorem run (ρ : Dev nD → PrngReg) (hs : ∀ c, Distinct (a1 m c)) :
    θ_run defs (onTc (τ := τ) (main (F := Ideal))) ⟨m, fun _ => 0, ρ⟩ (fun r => ∀ c : Dev nD,
      r.2.mem ((c.tc : Thread nD τ).loc main_v9_0) = g0 m c
      ∧ r.2.mem ((c.tc : Thread nD τ).loc main_v9_1) = g1 m c
      ∧ r.2.mem ((c.tc : Thread nD τ).loc main_v9_2) = g2 m c
      ∧ r.2.mem ((c.tc : Thread nD τ).loc main_v9_3) = g3 m c
      ∧ r.2.mem ((c.tc : Thread nD τ).loc main_v9_4) = g4 m c
      ∧ r.2.mem ((c.tc : Thread nD τ).loc main_v9_5) = g5 m c
      ∧ r.2.mem ((c.tc : Thread nD τ).loc main_v9_6) = g6 m c) :=
  (θ_run defs _ _).mono (fun _ h c => ⟨((h c).1 8).trans (final8 m c), ((h c).1 9).trans (final9 m c (hs c)), ((h c).1 10).trans (final10 m c (hs c)),
      ((h c).1 11).trans (final11 m c), ((h c).1 12).trans (final12 m c), ((h c).1 13).trans (final13 m c), ((h c).1 14).trans (final14 m c (hs c))⟩)
    (run_main m ρ)

end Cert.InIdeal.Val
end
-- ==== Proof.InPre.lean ====
module

public import proofs.«01_k».proof.Pre_slots_distinct
public import proofs.«01_k».proof.Proof.Gen.Pre_slots_distinct
public import proofs.«01_k».proof.Proof.InScatter
public import Idealize.ShloMosaic.Lib.Pointwise

/-! # The condition on the slots, in words -/

@[expose] public section

set_option maxRecDepth 16384

noncomputable section

namespace Cert.InSpec
open Cert.Pre_slots_distinct Idealize.ShloMosaic Idealize.ShloMosaic.TcCoe

/-- The condition's entry for two rows. -/
theorem pre_at [Facts] (x0 : FVec Ideal S120x1x4096 .bf16) (s : IVec S120 32) (x2 : IVec S4096x18496 8) (x3 : FVec Ideal S18496 .f32)
    (x4 : FVec Ideal S153x10240x3 .bf16) (x5 : FVec Ideal S10240x4 .f32) (x6 : FVec Ideal S10240 .f32) (x7 : FVec Ideal S64 .f32) (i j : Fin 120) :
    fn (F := Ideal) x0 s x2 x3 x4 x5 x6 x7 (ix2 i j) = IntOp.andi (IntOp.ori (IntOp.cmpi .ne (s (ix1 i)) (s (ix1 j)))
      (IntOp.cmpi .eq (BitVec.ofNat 32 i.val) (BitVec.ofNat 32 j.val))) (IntOp.cmpi .sge (s (ix1 i)) 0#32) := by
  unfold fn
  pointwise

/-- Where the condition holds, the slots are distinct and none is negative. -/
theorem distinct_of_pre [Facts] (x0 : FVec Ideal S120x1x4096 .bf16) (s : IVec S120 32) (x2 : IVec S4096x18496 8) (x3 : FVec Ideal S18496 .f32)
    (x4 : FVec Ideal S153x10240x3 .bf16) (x5 : FVec Ideal S10240x4 .f32) (x6 : FVec Ideal S10240 .f32) (x7 : FVec Ideal S64 .f32)
    (h : fn (F := Ideal) x0 s x2 x3 x4 x5 x6 x7 = fun _ => 1#1) : Distinct s := by
  have key : ∀ i j : Fin 120, (s (ix1 i) ≠ s (ix1 j) ∨ BitVec.ofNat 32 i.val = BitVec.ofNat 32 j.val) ∧ 0 ≤ (s (ix1 i)).toInt := fun i j => by
    have e := (pre_at x0 s x2 x3 x4 x5 x6 x7 i j).symm.trans (congrFun h (ix2 i j))
    rw [WordCmp.cmpi_ne_eq, WordCmp.cmpi_eq_eq, WordCmp.cmpi_sge_eq, WordCmp.ori_ofBool, WordCmp.andi_ofBool] at e
    have e1 : ∀ b : Bool, BitVec.ofBool b = 1#1 → b = true := by decide
    have e2 := e1 _ e
    simp only [Bool.and_eq_true, Bool.or_eq_true, decide_eq_true_eq] at e2
    exact ⟨e2.1, e2.2⟩
  refine ⟨fun i j e => ?_, fun i => (key i i).2⟩
  rcases (key i j).1 with h1 | h1
  · exact absurd e h1
  · have h2 := congrArg BitVec.toNat h1
    rw [BitVec.toNat_ofNat, BitVec.toNat_ofNat] at h2
    have := i.isLt
    have := j.isLt
    exact Fin.ext (by omega)

end Cert.InSpec
end
-- ==== Proof.InBitsKit.lean ====
module

public import proofs.«01_k».proof.Proof.Gen.In.Frame
public import proofs.«01_k».proof.Proof.Gen.In.Skeleton
public import Idealize.ShloMosaic.Lib.Pipeline.Value

@[expose] public section

set_option maxRecDepth 16384

noncomputable section

namespace Cert.In.Hand

open Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The conditions of the body's four branches, from the grid coordinates. -/
abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1
/-- It holds at the first point only. -/
theorem hcond0_0 : ∀ t : Fin cfg0.N, cond0_0 (grid0.coords t) ↔ t.val = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val = 0)
/-- It holds at the sixteen gate points. -/
theorem hcond0_1 : ∀ t : Fin cfg0.N, cond0_1 (grid0.coords t) ↔ t.val < 16 :=
  (fun t => by
    have ht : t.val < 37 := Nat.lt_of_lt_of_eq t.isLt N_0
    have e0 : (grid0.coords t 0).val = t.val / 1 % 37 := Pipeline.Grid.coords_val t 0 (by decide) rfl
    simp only [cond0_1, k0_cond2, e0]
    word_cmp
   : ∀ t : Fin grid0.N, cond0_1 (grid0.coords t) ↔ t.val < 16)
/-- It holds at the twenty convolution points. -/
theorem hcond0_2 : ∀ t : Fin cfg0.N, cond0_2 (grid0.coords t) ↔ 16 ≤ t.val ∧ t.val < 36 :=
  (fun t => by
    have ht : t.val < 37 := Nat.lt_of_lt_of_eq t.isLt N_0
    have e0 : (grid0.coords t 0).val = t.val / 1 % 37 := Pipeline.Grid.coords_val t 0 (by decide) rfl
    simp only [cond0_2, k0_cond3, e0]
    word_cmp
   : ∀ t : Fin grid0.N, cond0_2 (grid0.coords t) ↔ 16 ≤ t.val ∧ t.val < 36)
/-- It holds at the last point only. -/
theorem hcond0_3 : ∀ t : Fin cfg0.N, cond0_3 (grid0.coords t) ↔ t.val = 36 :=
  (fun t => by
    have ht : t.val < 37 := Nat.lt_of_lt_of_eq t.isLt N_0
    have e0 : (grid0.coords t 0).val = t.val / 1 % 37 := Pipeline.Grid.coords_val t 0 (by decide) rfl
    simp only [cond0_3, k0_cond4, e0]
    word_cmp
   : ∀ t : Fin grid0.N, cond0_3 (grid0.coords t) ↔ t.val = 36)

/-! ## The staging buffers and the scratch buffers -/

/-- Each window's current staging memref at point `t`. -/
abbrev ms0_0 (t : Fin cfg0.N) : Memref sig .tc .vmem S120x4096 .bf16 := win0_0.stage (cfg0.slots t 0)
abbrev ms0_1 (t : Fin cfg0.N) : Memref sig .tc .vmem S1x128 .i32 := win0_1.stage (cfg0.slots t 1)
abbrev ms0_2 (t : Fin cfg0.N) : Memref sig .tc .vmem S512x4096 .i8 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S3x153x512 .bf16 := win0_4.stage (cfg0.slots t 4)
abbrev ms0_5 (t : Fin cfg0.N) : Memref sig .tc .vmem S4x512 .f32 := win0_5.stage (cfg0.slots t 5)
abbrev ms0_6 (t : Fin cfg0.N) : Memref sig .tc .vmem S1x512 .f32 := win0_6.stage (cfg0.slots t 6)
abbrev ms0_7 (t : Fin cfg0.N) : Memref sig .tc .vmem S1x64 .f32 := win0_7.stage (cfg0.slots t 7)
abbrev ms0_8 (t : Fin cfg0.N) : Memref sig .tc .vmem S120x512 .f32 := win0_8.stage (cfg0.slots t 8)
abbrev ms0_9 (t : Fin cfg0.N) : Memref sig .tc .vmem S153x512 .f32 := win0_9.stage (cfg0.slots t 9)
abbrev ms0_10 (t : Fin cfg0.N) : Memref sig .tc .vmem S3x153x512 .bf16 := win0_10.stage (cfg0.slots t 10)
abbrev ms0_11 (t : Fin cfg0.N) : Memref sig .tc .vmem S120x64 .f32 := win0_11.stage (cfg0.slots t 11)
abbrev ms0_12 (t : Fin cfg0.N) : Memref sig .tc .vmem S120x4096 .i8 := win0_12.stage (cfg0.slots t 12)
abbrev ms0_13 (t : Fin cfg0.N) : Memref sig .tc .vmem S120x1 .f32 := win0_13.stage (cfg0.slots t 13)
abbrev ms0_14 (t : Fin cfg0.N) : Memref sig .tc .vmem S153x1 .i32 := win0_14.stage (cfg0.slots t 14)
/-- The scratch operands. -/
abbrev scM0_0 : Memref sig .tc .vmem S128x4096 .bf16 := Memref.whole cc0_scratch0
abbrev scM0_1 : Memref sig .tc .vmem S153x128 .bf16 := Memref.whole cc0_scratch1

/-- The kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves, as functions of the blocks it reads -/

theorem zz : (![0, 0] : Fin 2 → ℕ) = fun _ => 0 := by funext a; fin_cases a <;> rfl

/-- One store through the whole of a buffer leaves its payload, whatever was there. -/
theorem read_store_whole {sig : RefSig} {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) : v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-- The two stores of the left operand of the product: eight zero rows under the codes of the rows. -/
def xbL (x : Vec F S120x4096 .bf16) : List (View.Piece (Elt F) S128x4096 .bf16) :=
  [⟨Rect.unit (s := S128x4096) ![120, 0] S8x4096.size inb_S128x4096_S8x4096_120_0, k0_pay14 (F := F)⟩,
   ⟨Rect.unit (s := S128x4096) ![0, 0] S120x4096.size inb_S128x4096_S120x4096_0_0, k0_pay13 x⟩]

/-- The left operand of the product. -/
def xbV (x : Vec F S120x4096 .bf16) : Vec F S128x4096 .bf16 := View.canon (xbL x)

theorem xbL_cover (x : Vec F S120x4096 .bf16) (y : S128x4096.Idx) : ∃ p ∈ xbL x, y ∈ p.1.set := by
  have h0 : (y 0).val < 128 := (y 0).isLt
  have h1 : (y 1).val < 4096 := (y 1).isLt
  by_cases h : (y 0).val < 120
  · refine ⟨⟨Rect.unit (s := S128x4096) ![0, 0] S120x4096.size inb_S128x4096_S120x4096_0_0, k0_pay13 x⟩, .tail _ (.head _), ?_⟩
    refine (Rect.mem_set_unit (inb := inb_S128x4096_S120x4096_0_0)).mpr fun a => ?_
    fin_cases a
    · exact ⟨Nat.zero_le _, by show (y 0).val < 0 + 120; omega⟩
    · exact ⟨Nat.zero_le _, by show (y 1).val < 0 + 4096; omega⟩
  · refine ⟨⟨Rect.unit (s := S128x4096) ![120, 0] S8x4096.size inb_S128x4096_S8x4096_120_0, k0_pay14 (F := F)⟩, .head _, ?_⟩
    refine (Rect.mem_set_unit (inb := inb_S128x4096_S8x4096_120_0)).mpr fun a => ?_
    fin_cases a
    · exact ⟨by show 120 ≤ (y 0).val; omega, by show (y 0).val < 120 + 8; omega⟩
    · exact ⟨Nat.zero_le _, by show (y 1).val < 0 + 4096; omega⟩

/-- The rectangle of one plane of a three-plane block. -/
abbrev rp (p : ℕ) (h : ∀ a, (![p, 0, 0] : Fin 3 → ℕ) a + S1x153x512.size a ≤ S3x153x512.size a) : Rect S3x153x512 :=
  Rect.unit (s := S3x153x512) ![p, 0, 0] S1x153x512.size h

/-- The three planes of the old convolution window. -/
abbrev pl0 (x : Vec F S3x153x512 .bf16) : Vec F S1x153x512 .bf16 := View.ld x (rp 0 inb_S3x153x512_S1x153x512_0_0_0)
abbrev pl1 (x : Vec F S3x153x512 .bf16) : Vec F S1x153x512 .bf16 := View.ld x (rp 1 inb_S3x153x512_S1x153x512_1_0_0)
abbrev pl2 (x : Vec F S3x153x512 .bf16) : Vec F S1x153x512 .bf16 := View.ld x (rp 2 inb_S3x153x512_S1x153x512_2_0_0)

/-- The four taps. -/
abbrev tp0 (w : Vec F S4x512 .f32) : Vec F S1x512 .f32 := View.ld w (Rect.unit (s := S4x512) ![0, 0] S1x512.size inb_S4x512_S1x512_0_0)
abbrev tp1 (w : Vec F S4x512 .f32) : Vec F S1x512 .f32 := View.ld w (Rect.unit (s := S4x512) ![1, 0] S1x512.size inb_S4x512_S1x512_1_0)
abbrev tp2 (w : Vec F S4x512 .f32) : Vec F S1x512 .f32 := View.ld w (Rect.unit (s := S4x512) ![2, 0] S1x512.size inb_S4x512_S1x512_2_0)
abbrev tp3 (w : Vec F S4x512 .f32) : Vec F S1x512 .f32 := View.ld w (Rect.unit (s := S4x512) ![3, 0] S1x512.size inb_S4x512_S1x512_3_0)

/-- The convolved block: of the product's block `z`, the selection `q`, the old window, the taps and the bias. -/
def xcV (z : FVec F S120x512 .f32) (q : Vec F S153x128 .bf16) (x : Vec F S3x153x512 .bf16) (w : Vec F S4x512 .f32)
    (b : Vec F S1x512 .f32) : Vec F S153x512 .f32 :=
  k0_pay4 (k0_pay22 (pl0 x) (pl1 x) (pl2 x) (tp0 w) (tp1 w) (tp2 w)) (k0_pay23 z q (tp3 w)) b

/-- The three stores of the new convolution window, the last first. -/
def csL (z : FVec F S120x512 .f32) (q : Vec F S153x128 .bf16) (v : Vec F S153x1 .i32) (x : Vec F S3x153x512 .bf16) :
    List (View.Piece (Elt F) S3x153x512 .bf16) :=
  [⟨rp 2 inb_S3x153x512_S1x153x512_2_0_0, k0_pay7 (k0_pay17 z q) (k0_pay18 v) (k0_pay21 (pl2 x))⟩,
   ⟨rp 1 inb_S3x153x512_S1x153x512_1_0_0, k0_pay6 (k0_pay18 v) (k0_pay20 (pl1 x)) (k0_pay21 (pl2 x))⟩,
   ⟨rp 0 inb_S3x153x512_S1x153x512_0_0_0, k0_pay5 (k0_pay18 v) (k0_pay19 (pl0 x)) (k0_pay20 (pl1 x))⟩]

/-- The new convolution window. -/
def csV (z : FVec F S120x512 .f32) (q : Vec F S153x128 .bf16) (v : Vec F S153x1 .i32) (x : Vec F S3x153x512 .bf16) :
    Vec F S3x153x512 .bf16 := View.canon (csL z q v x)

theorem csL_cover (z : FVec F S120x512 .f32) (q : Vec F S153x128 .bf16) (v : Vec F S153x1 .i32) (x : Vec F S3x153x512 .bf16)
    (y : S3x153x512.Idx) : ∃ p ∈ csL z q v x, y ∈ p.1.set :=
  View.cover_of_tiled (csL z q v x) S1x153x512.size (by rfl) y

end Cert.In.Hand

end
-- ==== Proof.InBitsBodyA.lean ====
module

public import proofs.«01_k».proof.Proof.InBitsKit

@[expose] public section

set_option maxRecDepth 16384

noncomputable section

namespace Cert.In.Hand

open Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the first point: the rows are quantised, the selection and the slots' owners are written, and the first block of the gate. -/
theorem kernelRun0_A (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : cond0_0 i) (hc1 : cond0_1 i) (hc2 : ¬ cond0_2 i) (hc3 : ¬ cond0_3 i)
    (a1 : Vec F S120x4096 .bf16) (a2 : Vec F S1x128 .i32) (a3 : Vec F S512x4096 .i8) (a4 : Vec F S1x512 .f32) :
      ∀ (E : Set ℕ) (K : PUnit → sProp 𝕄),
        iprop(owns (c : Thread nD τ) arg1 fullShare a1 ∗ owns (c : Thread nD τ) arg2 fullShare a2 ∗ owns (c : Thread nD τ) arg3 fullShare a3 ∗ owns (c : Thread nD τ) arg4 fullShare a4 ∗ (∃ d, owns (c : Thread nD τ) arg9 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare a1 ∗ owns (c : Thread nD τ) arg2 fullShare a2 ∗ owns (c : Thread nD τ) arg3 fullShare a3 ∗ owns (c : Thread nD τ) arg4 fullShare a4 ∗ owns (c : Thread nD τ) arg9 fullShare (k0_pay3 a3 (xbV a1) (k0_pay10 a1) a4) ∗ owns (c : Thread nD τ) arg13 fullShare (k0_pay12 a1) ∗ owns (c : Thread nD τ) arg14 fullShare (k0_pay10 a1) ∗ owns (c : Thread nD τ) arg15 fullShare (k0_pay2 (k0_pay15 a2)) ∗ owns (c : Thread nD τ) arg16 fullShare (xbV a1) ∗ owns (c : Thread nD τ) arg17 fullShare (k0_pay1 (k0_pay16 a2))) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%d9, %f9, -, H9⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4
    sl_exec (disch := first | sl_exact hc0 | sl_exact hc1 | sl_exact hc2 | sl_exact hc3)
    sl_step
    have e1 : View.readAt (Elt F) arg1.view (Rect.unit ![0, 0] ![120, 4096] inb_S120x4096_S120x4096_0_0).toLoadRect (harg1.unread a1) = a1 := by
      rw [View.readAt_eq_ld, harg1.read_unread]; exact View.ld_unit_zero zz inb_S120x4096_S120x4096_0_0 a1
    have e2 : View.readAt (Elt F) arg2.view (Rect.unit ![0, 0] ![1, 128] inb_S1x128_S1x128_0_0).toLoadRect (harg2.unread a2) = a2 := by
      rw [View.readAt_eq_ld, harg2.read_unread]; exact View.ld_unit_zero zz inb_S1x128_S1x128_0_0 a2
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e1' : View.readAt (Elt F) arg1.view (Rect.unit ![0, 0] S120x4096.size inb_S120x4096_S120x4096_0_0).toLoadRect (harg1.unread a1) = a1 := e1
    have e2' : View.readAt (Elt F) arg2.view (Rect.unit ![0, 0] S1x128.size inb_S1x128_S1x128_0_0).toLoadRect (harg2.unread a2) = a2 := e2
    have hB : kernelRun0_A.sl.H16_2 c arg1 harg1 a1 = xbL a1 := by
      unfold kernelRun0_A.sl.H16_2; rw [e1']; rfl
    have h7 : kernelRun0_A.sl.v7 c arg1 harg1 arg16 a1 = xbV a1 := by
      unfold kernelRun0_A.sl.v7
      rw [hB, View.readCov_eq_canon']
      exact View.ld_unit_zero zz inb_S128x4096_S128x4096_0_0 (View.canon (xbL a1))
    have h14 : kernelRun0_A.sl.H14_1 c arg1 harg1 a1
        = [⟨Rect.unit ![0, 0] S120x1.size inb_S120x1_S120x1_0_0, k0_pay10 a1⟩] := by
      unfold kernelRun0_A.sl.H14_1; rw [e1']
    have h10 : kernelRun0_A.sl.v10 c arg1 harg1 arg14 a1 = k0_pay10 a1 := by
      unfold kernelRun0_A.sl.v10
      rw [h14]; exact View.readCov_unit_zero arg14.view zz inb_S120x1_S120x1_0_0 _
    have hr : kernelRun0_A.sl.r c arg2 harg2 a2 = k0_pay15 a2 := by
      unfold kernelRun0_A.sl.r; rw [e2']
    have hr1 : kernelRun0_A.sl.r_1 c arg2 harg2 a2 = k0_pay16 a2 := by
      unfold kernelRun0_A.sl.r_1; rw [e2']
    rw [e1', e3, e4, h7, h10, h14, hr, hB, hr1]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H9]
    · iexists _; isplitr; swap; · iexact H9
      ipureintro
      exact read_store_whole arg9.view f9 zz inb_S120x512_S120x512_0_0 _
    isplitl [H13]
    · iexists _; isplitr; swap; · iexact H13
      ipureintro
      exact read_store_whole arg13.view f13 zz inb_S120x4096_S120x4096_0_0 _
    isplitl [H14]
    · iexists _; isplitr; swap; · iexact H14
      ipureintro
      exact read_store_whole arg14.view f14 zz inb_S120x1_S120x1_0_0 _
    isplitl [H15]
    · iexists _; isplitr; swap; · iexact H15
      ipureintro
      exact read_store_whole arg15.view f15 zz inb_S153x1_S153x1_0_0 _
    isplitl [H16]
    · iexists _; isplitr; swap; · iexact H16
      ipureintro
      exact View.read_writes_eq_canon arg16.view f16 _ (xbL_cover a1)
    iexists _; isplitr; swap; · iexact H17
    ipureintro
    exact read_store_whole arg17.view f17 zz inb_S153x128_S153x128_0_0 _

end Cert.In.Hand

end
-- ==== Proof.InBitsBodyB.lean ====
module

public import proofs.«01_k».proof.Proof.InBitsKit

@[expose] public section

set_option maxRecDepth 16384

noncomputable section

namespace Cert.In.Hand

open Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the other gate points: a block of the gate. -/
theorem kernelRun0_B (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : ¬ cond0_0 i) (hc1 : cond0_1 i) (hc2 : ¬ cond0_2 i) (hc3 : ¬ cond0_3 i)
    (a3 : Vec F S512x4096 .i8) (a4 : Vec F S1x512 .f32) (a14 : Vec F S120x1 .f32) (a16 : Vec F S128x4096 .bf16) :
      ∀ (E : Set ℕ) (K : PUnit → sProp 𝕄),
        iprop(owns (c : Thread nD τ) arg3 fullShare a3 ∗ owns (c : Thread nD τ) arg4 fullShare a4 ∗ owns (c : Thread nD τ) arg14 fullShare a14 ∗ owns (c : Thread nD τ) arg16 fullShare a16 ∗ (∃ d, owns (c : Thread nD τ) arg9 fullShare d)
            ∗ (iprop(owns (c : Thread nD τ) arg3 fullShare a3 ∗ owns (c : Thread nD τ) arg4 fullShare a4 ∗ owns (c : Thread nD τ) arg14 fullShare a14 ∗ owns (c : Thread nD τ) arg16 fullShare a16 ∗ owns (c : Thread nD τ) arg9 fullShare (k0_pay3 a3 a16 a14 a4)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f14, %hf14, H14⟩, ⟨%f16, %hf16, H16⟩, ⟨%d9, %f9, -, H9⟩, Hk⟩
    obtain rfl := harg3.eq_unread hf3; obtain rfl := harg4.eq_unread hf4; obtain rfl := harg14.eq_unread hf14; obtain rfl := harg16.eq_unread hf16
    sl_exec (disch := first | sl_exact hc0 | sl_exact hc1 | sl_exact hc2 | sl_exact hc3)
    sl_step
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e14 : View.readAt (Elt F) arg14.view (Rect.unit ![0, 0] ![120, 1] inb_S120x1_S120x1_0_0).toLoadRect (harg14.unread a14) = a14 := by
      rw [View.readAt_eq_ld, harg14.read_unread]; exact View.ld_unit_zero zz inb_S120x1_S120x1_0_0 a14
    have e16 : View.readAt (Elt F) arg16.view (Rect.unit ![0, 0] ![128, 4096] inb_S128x4096_S128x4096_0_0).toLoadRect (harg16.unread a16) = a16 := by
      rw [View.readAt_eq_ld, harg16.read_unread]; exact View.ld_unit_zero zz inb_S128x4096_S128x4096_0_0 a16
    rw [e3, e4, e14, e16]
    iapply Hk
    isplitl [H3]
    · iexists _; isplitr; · ipureintro; exact harg3.read_unread _
      iexact H3
    isplitl [H4]
    · iexists _; isplitr; · ipureintro; exact harg4.read_unread _
      iexact H4
    isplitl [H14]
    · iexists _; isplitr; · ipureintro; exact harg14.read_unread _
      iexact H14
    isplitl [H16]
    · iexists _; isplitr; · ipureintro; exact harg16.read_unread _
      iexact H16
    iexists _; isplitr; swap; · iexact H9
    ipureintro
    exact read_store_whole arg9.view f9 zz inb_S120x512_S120x512_0_0 _

end Cert.In.Hand

end
-- ==== Proof.InBitsBodyC.lean ====
module

public import proofs.«01_k».proof.Proof.InBitsKit

@[expose] public section

set_option maxRecDepth 16384

noncomputable section

namespace Cert.In.Hand

open Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the convolution points: a block of the convolved rows, and of the new convolution window. -/
theorem kernelRun0_C (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : ¬ cond0_0 i) (hc1 : ¬ cond0_1 i) (hc2 : cond0_2 i) (hc3 : ¬ cond0_3 i)
    (a3 : Vec F S512x4096 .i8) (a4 : Vec F S1x512 .f32) (a5 : Vec F S3x153x512 .bf16) (a6 : Vec F S4x512 .f32) (a7 : Vec F S1x512 .f32) (a14 : Vec F S120x1 .f32) (a15 : Vec F S153x1 .i32) (a16 : Vec F S128x4096 .bf16) (a17 : Vec F S153x128 .bf16) :
      ∀ (E : Set ℕ) (K : PUnit → sProp 𝕄),
        iprop(owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7 ∗ owns (c : Thread nD τ) arg14 fullShare a14 ∗ owns (c : Thread nD τ) arg15 fullShare a15 ∗ owns (c : Thread nD τ) arg16 fullShare a16 ∗ owns (c : Thread nD τ) arg17 fullShare a17 ∗ (∃ d, owns (c : Thread nD τ) arg10 fullShare d) ∗ (∃ d, owns (c : Thread nD τ) arg11 fullShare d)
            ∗ (iprop(owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7 ∗ owns (c : Thread nD τ) arg14 fullShare a14 ∗ owns (c : Thread nD τ) arg15 fullShare a15 ∗ owns (c : Thread nD τ) arg16 fullShare a16 ∗ owns (c : Thread nD τ) arg17 fullShare a17 ∗ owns (c : Thread nD τ) arg10 fullShare (xcV (k0_pay3 a3 a16 a14 a4) a17 a5 a6 a7) ∗ owns (c : Thread nD τ) arg11 fullShare (csV (k0_pay3 a3 a16 a14 a4) a17 a15 a5)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f14, %hf14, H14⟩, ⟨%f15, %hf15, H15⟩, ⟨%f16, %hf16, H16⟩, ⟨%f17, %hf17, H17⟩, ⟨%d10, %f10, -, H10⟩, ⟨%d11, %f11, -, H11⟩, Hk⟩
    obtain rfl := harg3.eq_unread hf3; obtain rfl := harg4.eq_unread hf4; obtain rfl := harg5.eq_unread hf5; obtain rfl := harg6.eq_unread hf6; obtain rfl := harg7.eq_unread hf7; obtain rfl := harg14.eq_unread hf14; obtain rfl := harg15.eq_unread hf15; obtain rfl := harg16.eq_unread hf16; obtain rfl := harg17.eq_unread hf17
    sl_exec (disch := first | sl_exact hc0 | sl_exact hc1 | sl_exact hc2 | sl_exact hc3)
    sl_step
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e5 : ∀ r : Rect S3x153x512, View.readAt (Elt F) arg5.view r.toLoadRect (harg5.unread a5) = View.ld a5 r :=
      fun r => by rw [View.readAt_eq_ld, harg5.read_unread]
    have e6 : ∀ r : Rect S4x512, View.readAt (Elt F) arg6.view r.toLoadRect (harg6.unread a6) = View.ld a6 r :=
      fun r => by rw [View.readAt_eq_ld, harg6.read_unread]
    have e7 : View.readAt (Elt F) arg7.view (Rect.unit ![0, 0] ![1, 512] inb_S1x512_S1x512_0_0).toLoadRect (harg7.unread a7) = a7 := by
      rw [View.readAt_eq_ld, harg7.read_unread]; exact View.ld_unit_zero zz inb_S1x512_S1x512_0_0 a7
    have e14 : View.readAt (Elt F) arg14.view (Rect.unit ![0, 0] ![120, 1] inb_S120x1_S120x1_0_0).toLoadRect (harg14.unread a14) = a14 := by
      rw [View.readAt_eq_ld, harg14.read_unread]; exact View.ld_unit_zero zz inb_S120x1_S120x1_0_0 a14
    have e15 : View.readAt (Elt F) arg15.view (Rect.unit ![0, 0] ![153, 1] inb_S153x1_S153x1_0_0).toLoadRect (harg15.unread a15) = a15 := by
      rw [View.readAt_eq_ld, harg15.read_unread]; exact View.ld_unit_zero zz inb_S153x1_S153x1_0_0 a15
    have e16 : View.readAt (Elt F) arg16.view (Rect.unit ![0, 0] ![128, 4096] inb_S128x4096_S128x4096_0_0).toLoadRect (harg16.unread a16) = a16 := by
      rw [View.readAt_eq_ld, harg16.read_unread]; exact View.ld_unit_zero zz inb_S128x4096_S128x4096_0_0 a16
    have e17 : View.readAt (Elt F) arg17.view (Rect.unit ![0, 0] ![153, 128] inb_S153x128_S153x128_0_0).toLoadRect (harg17.unread a17) = a17 := by
      rw [View.readAt_eq_ld, harg17.read_unread]; exact View.ld_unit_zero zz inb_S153x128_S153x128_0_0 a17
    unfold kernelRun0_C.sl.r kernelRun0_C.sl.r_1 kernelRun0_C.sl.r_2 kernelRun0_C.sl.r_3 kernelRun0_C.sl.r_4 kernelRun0_C.sl.r_5 kernelRun0_C.sl.r_6
    simp only [e3, e4, e5, e6, e7, e14, e15, e16, e17]
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H10]
    · iexists _; isplitr; swap; · iexact H10
      ipureintro
      exact read_store_whole arg10.view f10 zz inb_S153x512_S153x512_0_0 _
    iexists _; isplitr; swap; · iexact H11
    ipureintro
    exact View.read_writes_eq_canon arg11.view f11 _ (csL_cover (k0_pay3 a3 a16 a14 a4) a17 a15 a5)

end Cert.In.Hand

end
-- ==== Proof.InBitsBodyD.lean ====
module

public import proofs.«01_k».proof.Proof.InBitsKit

@[expose] public section

set_option maxRecDepth 16384

noncomputable section

namespace Cert.In.Hand

open Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, branch by branch -/

set_option maxHeartbeats 1000000 in
/-- At the last point: the time steps. -/
theorem kernelRun0_D (c : Dev nD) (i : grid0.Coords) (arg1 : Memref sig .tc .vmem S120x4096 .bf16) (harg1 : arg1.IsWhole) (arg2 : Memref sig .tc .vmem S1x128 .i32) (harg2 : arg2.IsWhole) (arg3 : Memref sig .tc .vmem S512x4096 .i8) (harg3 : arg3.IsWhole) (arg4 : Memref sig .tc .vmem S1x512 .f32) (harg4 : arg4.IsWhole) (arg5 : Memref sig .tc .vmem S3x153x512 .bf16) (harg5 : arg5.IsWhole) (arg6 : Memref sig .tc .vmem S4x512 .f32) (harg6 : arg6.IsWhole) (arg7 : Memref sig .tc .vmem S1x512 .f32) (harg7 : arg7.IsWhole) (arg8 : Memref sig .tc .vmem S1x64 .f32) (harg8 : arg8.IsWhole) (arg9 : Memref sig .tc .vmem S120x512 .f32) (harg9 : arg9.IsWhole) (arg10 : Memref sig .tc .vmem S153x512 .f32) (harg10 : arg10.IsWhole) (arg11 : Memref sig .tc .vmem S3x153x512 .bf16) (harg11 : arg11.IsWhole) (arg12 : Memref sig .tc .vmem S120x64 .f32) (harg12 : arg12.IsWhole) (arg13 : Memref sig .tc .vmem S120x4096 .i8) (harg13 : arg13.IsWhole) (arg14 : Memref sig .tc .vmem S120x1 .f32) (harg14 : arg14.IsWhole) (arg15 : Memref sig .tc .vmem S153x1 .i32) (harg15 : arg15.IsWhole) (arg16 : Memref sig .tc .vmem S128x4096 .bf16) (harg16 : arg16.IsWhole) (arg17 : Memref sig .tc .vmem S153x128 .bf16) (harg17 : arg17.IsWhole)
    (hc0 : ¬ cond0_0 i) (hc1 : ¬ cond0_1 i) (hc2 : ¬ cond0_2 i) (hc3 : cond0_3 i)
    (a3 : Vec F S512x4096 .i8) (a4 : Vec F S1x512 .f32) (a8 : Vec F S1x64 .f32) (a14 : Vec F S120x1 .f32) (a16 : Vec F S128x4096 .bf16) :
      ∀ (E : Set ℕ) (K : PUnit → sProp 𝕄),
        iprop(owns (c : Thread nD τ) arg3 fullShare a3 ∗ owns (c : Thread nD τ) arg4 fullShare a4 ∗ owns (c : Thread nD τ) arg8 fullShare a8 ∗ owns (c : Thread nD τ) arg14 fullShare a14 ∗ owns (c : Thread nD τ) arg16 fullShare a16 ∗ (∃ d, owns (c : Thread nD τ) arg12 fullShare d)
            ∗ (iprop(owns (c : Thread nD τ) arg3 fullShare a3 ∗ owns (c : Thread nD τ) arg4 fullShare a4 ∗ owns (c : Thread nD τ) arg8 fullShare a8 ∗ owns (c : Thread nD τ) arg14 fullShare a14 ∗ owns (c : Thread nD τ) arg16 fullShare a16 ∗ owns (c : Thread nD τ) arg12 fullShare (k0_pay8 a3 a16 a14 a4 a8)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_in_proj_eq_skeleton]; unfold cc0_in_proj_skel
    simp only [k0_part1_eq_skeleton, k0_part2_eq_skeleton]
    unfold owns
    iintro ⟨⟨%f3, %hf3, H3⟩, ⟨%f4, %hf4, H4⟩, ⟨%f8, %hf8, H8⟩, ⟨%f14, %hf14, H14⟩, ⟨%f16, %hf16, H16⟩, ⟨%d12, %f12, -, H12⟩, Hk⟩
    obtain rfl := harg3.eq_unread hf3; obtain rfl := harg4.eq_unread hf4; obtain rfl := harg8.eq_unread hf8; obtain rfl := harg14.eq_unread hf14; obtain rfl := harg16.eq_unread hf16
    sl_exec (disch := first | sl_exact hc0 | sl_exact hc1 | sl_exact hc2 | sl_exact hc3)
    sl_step
    have e3 : View.readAt (Elt F) arg3.view (Rect.unit ![0, 0] ![512, 4096] inb_S512x4096_S512x4096_0_0).toLoadRect (harg3.unread a3) = a3 := by
      rw [View.readAt_eq_ld, harg3.read_unread]; exact View.ld_unit_zero zz inb_S512x4096_S512x4096_0_0 a3
    have e4 : View.readAt (Elt F) arg4.view (Rect.unit ![0, 0] ![1, 512] inb_S1x512_S1x512_0_0).toLoadRect (harg4.unread a4) = a4 := by
      rw [View.readAt_eq_ld, harg4.read_unread]; exact View.ld_unit_zero zz inb_S1x512_S1x512_0_0 a4
    have e8 : View.readAt (Elt F) arg8.view (Rect.unit ![0, 0] ![1, 64] inb_S1x64_S1x64_0_0).toLoadRect (harg8.unread a8) = a8 := by
      rw [View.readAt_eq_ld, harg8.read_unread]; exact View.ld_unit_zero zz inb_S1x64_S1x64_0_0 a8
    have e14 : View.readAt (Elt F) arg14.view (Rect.unit ![0, 0] ![120, 1] inb_S120x1_S120x1_0_0).toLoadRect (harg14.unread a14) = a14 := by
      rw [View.readAt_eq_ld, harg14.read_unread]; exact View.ld_unit_zero zz inb_S120x1_S120x1_0_0 a14
    have e16 : View.readAt (Elt F) arg16.view (Rect.unit ![0, 0] ![128, 4096] inb_S128x4096_S128x4096_0_0).toLoadRect (harg16.unread a16) = a16 := by
      rw [View.readAt_eq_ld, harg16.read_unread]; exact View.ld_unit_zero zz inb_S128x4096_S128x4096_0_0 a16
    rw [e3, e4, e8, e14, e16]
    iapply Hk
    isplitl [H3]
    · iexists _; isplitr; · ipureintro; exact harg3.read_unread _
      iexact H3
    isplitl [H4]
    · iexists _; isplitr; · ipureintro; exact harg4.read_unread _
      iexact H4
    isplitl [H8]
    · iexists _; isplitr; · ipureintro; exact harg8.read_unread _
      iexact H8
    isplitl [H14]
    · iexists _; isplitr; · ipureintro; exact harg14.read_unread _
      iexact H14
    isplitl [H16]
    · iexists _; isplitr; · ipureintro; exact harg16.read_unread _
      iexact H16
    iexists _; isplitr; swap; · iexact H12
    ipureintro
    exact read_store_whole arg12.view f12 zz inb_S120x64_S120x64_0_0 _

end Cert.In.Hand

end
-- ==== Proof.InBitsRun.lean ====
module

public import proofs.«01_k».proof.Proof.InBitsBodyA
public import proofs.«01_k».proof.Proof.InBitsBodyB
public import proofs.«01_k».proof.Proof.InBitsBodyC
public import proofs.«01_k».proof.Proof.InBitsBodyD
public import Idealize.ShloMosaic.Lib.Claim
public import Idealize.ShloMosaic.Lib.Pipeline.TableIdle

@[expose] public section

set_option maxRecDepth 16384

noncomputable section

namespace Cert.In.Hand

open Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data: the inputs at their blocks, the two whose last block overhangs filled out past the arrays' ends; of the results
    nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0#8 : BitVec 8)) (iblk m c 2 t)
    | ⟨3, _⟩ => win0_3.fill (grid0.coords t) (fun _ => Scalar.ofBits .f32 0#32) (iblk m c 3 t)
    | ⟨4, _⟩ => iblk m c 4 t
    | ⟨5, _⟩ => iblk m c 5 t
    | ⟨6, _⟩ => iblk m c 6 t
    | ⟨7, _⟩ => iblk m c 7 t
    | ⟨8, _⟩ => fun _ => Scalar.ofBits .f32 0#32
    | ⟨9, _⟩ => fun _ => Scalar.ofBits .f32 0#32
    | ⟨10, _⟩ => fun _ => Scalar.ofBits .bf16 0#16
    | ⟨11, _⟩ => fun _ => Scalar.ofBits .f32 0#32
    | ⟨12, _⟩ => fun _ => (0#8 : BitVec 8)
    | ⟨13, _⟩ => fun _ => Scalar.ofBits .f32 0#32
    | ⟨14, _⟩ => fun _ => (0#32 : BitVec 32)
  Φ _ := Pipeline.ΦA spec0 c
  q _ := fullShare
  owed _ := 0

/-- The results' windows. -/
def fgt : Fin cfg0.W → Bool := fun w => decide (8 ≤ w.val)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_2 (c : Dev nD) (t : Fin cfg0.N) : (dats m 0 c).after 2 t = win0_2.fill (grid0.coords t) (fun _ => (0#8 : BitVec 8)) (iblk m c 2 t) := by dsimp only [dats]
theorem after0_3 (c : Dev nD) (t : Fin cfg0.N) : (dats m 0 c).after 3 t = win0_3.fill (grid0.coords t) (fun _ => Scalar.ofBits .f32 0#32) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_2 (c : Dev nD) (t : Fin cfg0.N) (d) : (dats m 0 c).before 2 t d = win0_2.fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = win0_3.fill (grid0.coords t) d (iblk m c 3 t) := by
  unfold Dat.before; rw [if_pos (fetch0_3 t)]; unfold Dat.fetched Dat.blockOf iblk; rw [A_eq]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X)
    ∗ (∃ X, owns (c : Thread nD τ) (ms0_13 t) fullShare X)
    ∗ (∃ X, owns (c : Thread nD τ) (ms0_14 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X)
    ∗ (∃ X, owns (c : Thread nD τ) (ms0_12 t) fullShare X)
    ∗ (∃ X, owns (c : Thread nD τ) (ms0_13 t) fullShare X)
    ∗ (∃ X, owns (c : Thread nD τ) (ms0_14 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7,
    after0_0, after0_1, after0_2, after0_3, after0_4, after0_5, after0_6, after0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl,
    PhiA0_eq]
  have hN : t.val < 37 := lt_of_lt_of_eq t.isLt N_0
  have hx2 : win0_2.cut (grid0.coords t) (win0_2.fill (grid0.coords t) (fun _ => (0#8 : BitVec 8)) (iblk m c 2 t)) = iblk m c 2 t :=
    win0_2.cut_fill _ _ _
  have hx3 : win0_3.cut (grid0.coords t) (win0_3.fill (grid0.coords t) (fun _ => Scalar.ofBits .f32 0#32) (iblk m c 3 t)) = iblk m c 3 t :=
    win0_3.cut_fill _ _ _
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
  by_cases h0 : t.val = 0
  · have c0 := (hcond0_0 t).mpr h0
    have c1 := (hcond0_1 t).mpr (by omega)
    have c2 : ¬ cond0_2 (grid0.coords t) := fun h => absurd ((hcond0_2 t).mp h) (by omega)
    have c3 : ¬ cond0_3 (grid0.coords t) := fun h => absurd ((hcond0_3 t).mp h) (by omega)
    iapply ((kernelRun0_A c (grid0.coords t) _ _ _ _ _ _ _ _ _ _ _ _ _ _ _ _ _ _ _ _ _ _ _ _ _ _ _ _ _ _ _ _ _ _ c0 c1 c2 c3 (iblk m c 0 t) (iblk m c 1 t) (win0_2.fill (grid0.coords t) d2 (iblk m c 2 t)) (win0_3.fill (grid0.coords t) d3 (iblk m c 3 t))) Set.univ _)
    isplitl [H0]; · iexact H0
    isplitl [H1]; · iexact H1
    isplitl [H2]; · iexact H2
    isplitl [H3]; · iexact H3
    isplitl [H8]; · iexact H8
    isplitl [H12]; · iexact H12
    isplitl [H13]; · iexact H13
    isplitl [H14]; · iexact H14
    isplitl [HS0]; · iexact HS0
    isplitl [HS1]; · iexact HS1
    iintro ⟨H0, H1, H2, H3, H8, H12, H13, H14, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexists d2; rw [hx2]; iexact H2
    isplitl [H3]; · iexists d3; rw [hx3]; iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexists _; iexact H12
    isplitl [H13]; · iexists _; iexact H13
    iexists _; iexact H14
  have c0 : ¬ cond0_0 (grid0.coords t) := fun h => absurd ((hcond0_0 t).mp h) (by omega)
  by_cases h1 : t.val < 16
  · have c1 := (hcond0_1 t).mpr (by omega)
    have c2 : ¬ cond0_2 (grid0.coords t) := fun h => absurd ((hcond0_2 t).mp h) (by omega)
    have c3 : ¬ cond0_3 (grid0.coords t) := fun h => absurd ((hcond0_3 t).mp h) (by omega)
    icases H13 with ⟨%y14, H13⟩
    icases HS0 with ⟨%y16, HS0⟩
    iapply ((kernelRun0_B c (grid0.coords t) _ _ _ _ _ _ _ _ _ _ _ _ _ _ _ _ _ _ _ _ _ _ _ _ _ _ _ _ _ _ _ _ _ _ c0 c1 c2 c3 (win0_2.fill (grid0.coords t) d2 (iblk m c 2 t)) (win0_3.fill (grid0.coords t) d3 (iblk m c 3 t)) y14 y16) Set.univ _)
    isplitl [H2]; · iexact H2
    isplitl [H3]; · iexact H3
    isplitl [H13]; · iexact H13
    isplitl [HS0]; · iexact HS0
    isplitl [H8]; · iexact H8
    iintro ⟨H2, H3, H13, HS0, H8⟩
    isplitl [HS0 HS1 Hg]
    · isplitl [HS0 HS1]
      · isplitl [HS0]
        · iexists _; iexact HS0
        iexact HS1
      iexact Hg
    isplitl [Ho]; · iexact Ho
    isplitl [H0]; · iexact H0
    isplitl [H1]; · iexact H1
    isplitl [H2]; · iexists d2; rw [hx2]; iexact H2
    isplitl [H3]; · iexists d3; rw [hx3]; iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [H13]; · iexists _; iexact H13
    iexact H14
  have c1 : ¬ cond0_1 (grid0.coords t) := fun h => absurd ((hcond0_1 t).mp h) (by omega)
  by_cases h2 : t.val < 36
  · have c2 := (hcond0_2 t).mpr (by omega)
    have c3 : ¬ cond0_3 (grid0.coords t) := fun h => absurd ((hcond0_3 t).mp h) (by omega)
    icases H13 with ⟨%y14, H13⟩
    icases H14 with ⟨%y15, H14⟩
    icases HS0 with ⟨%y16, HS0⟩
    icases HS1 with ⟨%y17, HS1⟩
    iapply ((kernelRun0_C c (grid0.coords t) _ _ _ _ _ _ _ _ _ _ _ _ _ _ _ _ _ _ _ _ _ _ _ _ _ _ _ _ _ _ _ _ _ _ c0 c1 c2 c3 (win0_2.fill (grid0.coords t) d2 (iblk m c 2 t)) (win0_3.fill (grid0.coords t) d3 (iblk m c 3 t)) (iblk m c 4 t) (iblk m c 5 t) (iblk m c 6 t) y14 y15 y16 y17) Set.univ _)
    isplitl [H2]; · iexact H2
    isplitl [H3]; · iexact H3
    isplitl [H4]; · iexact H4
    isplitl [H5]; · iexact H5
    isplitl [H6]; · iexact H6
    isplitl [H13]; · iexact H13
    isplitl [H14]; · iexact H14
    isplitl [HS0]; · iexact HS0
    isplitl [HS1]; · iexact HS1
    isplitl [H9]; · iexact H9
    isplitl [H10]; · iexact H10
    iintro ⟨H2, H3, H4, H5, H6, H13, H14, HS0, HS1, H9, H10⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexists d2; rw [hx2]; iexact H2
    isplitl [H3]; · iexists d3; rw [hx3]; iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [H13]; · iexists _; iexact H13
    iexists _; iexact H14
  · have c2 : ¬ cond0_2 (grid0.coords t) := fun h => absurd ((hcond0_2 t).mp h) (by omega)
    have c3 := (hcond0_3 t).mpr (by omega)
    icases H13 with ⟨%y14, H13⟩
    icases HS0 with ⟨%y16, HS0⟩
    iapply ((kernelRun0_D c (grid0.coords t) _ _ _ _ _ _ _ _ _ _ _ _ _ _ _ _ _ _ _ _ _ _ _ _ _ _ _ _ _ _ _ _ _ _ c0 c1 c2 c3 (win0_2.fill (grid0.coords t) d2 (iblk m c 2 t)) (win0_3.fill (grid0.coords t) d3 (iblk m c 3 t)) (iblk m c 7 t) y14 y16) Set.univ _)
    isplitl [H2]; · iexact H2
    isplitl [H3]; · iexact H3
    isplitl [H7]; · iexact H7
    isplitl [H13]; · iexact H13
    isplitl [HS0]; · iexact HS0
    isplitl [H11]; · iexact H11
    iintro ⟨H2, H3, H7, H13, HS0, H11⟩
    isplitl [HS0 HS1 Hg]
    · isplitl [HS0 HS1]
      · isplitl [HS0]
        · iexists _; iexact HS0
        iexact HS1
      iexact Hg
    isplitl [Ho]; · iexact Ho
    isplitl [H0]; · iexact H0
    isplitl [H1]; · iexact H1
    isplitl [H2]; · iexists d2; rw [hx2]; iexact H2
    isplitl [H3]; · iexists d3; rw [hx3]; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexists _; iexact H13
    iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_frame_track_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m)
    (hin := fun _ => .rfl) (hout := fun _ => .rfl)
    (hQ' := fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)

end Cert.In.Hand

end
-- ==== Proof.InClaims.lean ====
module

public import proofs.«01_k».proof.Proof.InValue
public import proofs.«01_k».proof.Proof.InPre
public import proofs.«01_k».proof.Defs
public import proofs.«01_k».proof.Proof.InBitsRun

/-! # The claims about the input projection -/

@[expose] public section

set_option maxRecDepth 16384

noncomputable section

namespace Cert.Proof.InClaims
open Idealize.ShloMosaic Idealize.SL.Sem

theorem frame : Cert.quiescent_In := fun m ρ _ => Cert.In.Hand.frame m ρ

theorem frame_ideal : Cert.quiescent_InIdeal := fun m ρ _ => Cert.InIdeal.Hand.frame m ρ
theorem frame_ideal_pre : Cert.quiescent_InIdeal_pre_slots_distinct := fun m ρ _ => Cert.InIdeal.Hand.frame m ρ

theorem frame_ref : Cert.quiescent_RefInIdeal := fun m ρ _ =>
  (θ_run Cert.RefInIdeal.defs _ _).mono (fun r h => ⟨fun c => (h c).2.2.2.2.2.2.2, sem_eq_zero_of_no_sems (by decide) r.2⟩)
    (Cert.RefInIdeal.Value.run (F := Ideal) m ρ)
theorem frame_ref_pre : Cert.quiescent_RefInIdeal_pre_slots_distinct := fun m ρ _ =>
  (θ_run Cert.RefInIdeal.defs _ _).mono (fun r h => ⟨fun c => (h c).2.2.2.2.2.2.2, sem_eq_zero_of_no_sems (by decide) r.2⟩)
    (Cert.RefInIdeal.Value.run (F := Ideal) m ρ)

section
open Cert.RefInIdeal Cert.InSpec Idealize.ShloMosaic.TcCoe
variable (m' : (ℓ : Loc nD τ sig) → Buf (Elt Ideal) ℓ)

/-- What the reference's run leaves, in the terms of the specification. -/
theorem run_ref (ρ : Dev nD → PrngReg) :
    θ_run (Cert.RefInIdeal.defs (F := Ideal)) (onTc (τ := τ) (main (F := Ideal))) ⟨m', fun _ => 0, ρ⟩ (fun r => ∀ c : Dev nD,
      r.2.mem ((c.tc : Thread nD τ).loc main_v30) = rZ (rP m' c)
      ∧ r.2.mem ((c.tc : Thread nD τ).loc main_v76) = rPut (m' ((c.tc : Thread nD τ).loc main_arg1))
          (rSiluS (rIdle (m' ((c.tc : Thread nD τ).loc main_arg4)) (m' ((c.tc : Thread nD τ).loc main_arg5)) (m' ((c.tc : Thread nD τ).loc main_arg6))))
          (rSilu (rConv (rU m' c) (m' ((c.tc : Thread nD τ).loc main_arg5)) (m' ((c.tc : Thread nD τ).loc main_arg6))))
      ∧ r.2.mem ((c.tc : Thread nD τ).loc main_v90) = rNew (m' ((c.tc : Thread nD τ).loc main_arg1)) (rU m' c) (m' ((c.tc : Thread nD τ).loc main_arg4))
      ∧ r.2.mem ((c.tc : Thread nD τ).loc main_v89) = rSoftplus (rPre (rP m' c) (m' ((c.tc : Thread nD τ).loc main_arg7)))
      ∧ r.2.mem ((c.tc : Thread nD τ).loc main_v91) = shapeCast S120x4096 (rCode (m' ((c.tc : Thread nD τ).loc main_arg0))) Cert.RefInIdeal.Gen.shapeCasts_S120x1x4096_S120x4096
      ∧ r.2.mem ((c.tc : Thread nD τ).loc main_v15) = shapeCast S120x1 (rScale (m' ((c.tc : Thread nD τ).loc main_arg0))) Cert.RefInIdeal.Gen.shapeCasts_S120x1x1_S120x1
      ∧ r.2.mem ((c.tc : Thread nD τ).loc main_v92) = broadcastInDim S153x1 ![0] Cert.RefInIdeal.Gen.bcast_S153_S153x1_0 (rOwn (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run _ _ _).mono (fun _ h c => ⟨(h c).1.trans rfl, (h c).2.1.trans (res1 m' c), (h c).2.2.1.trans rfl, (h c).2.2.2.1.trans (res3 m' c),
    (h c).2.2.2.2.1.trans rfl, (h c).2.2.2.2.2.1.trans rfl, (h c).2.2.2.2.2.2.1.trans rfl, (h c).2.2.2.2.2.2.2⟩)
    (Cert.RefInIdeal.Value.run (F := Ideal) m' ρ)
end

theorem algebraic : Cert.algebraic_InIdeal_RefInIdeal_pre_slots_distinct := by
  intro m g m' g' hpre hag
  have hs : ∀ c, Cert.InSpec.Distinct (Cert.InIdeal.Val.a1 m c) := fun c => Cert.InSpec.distinct_of_pre _ _ _ _ _ _ _ _ (hpre c)
  have e0 : ∀ c, Cert.InSpec.rP m' c = Cert.InIdeal.Val.pR m c := fun c => by
    obtain ⟨h0, h1, h2, h3, h4, h5, h6, h7⟩ := hag c
    unfold Cert.InSpec.rP Cert.InIdeal.Val.pR
    rw [h0, h2, h3]
  refine ⟨fun c => _, fun c => _, fun c => _, fun c => _, fun c => _, fun c => _, fun c => _,
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩)
      (θ_run_and (Cert.InIdeal.Val.run m g hs) (Cert.InIdeal.Hand.unchanged m g)),
    (θ_run _ _ _).mono (fun r h c => ?_) (run_ref m' g')⟩
  obtain ⟨h0, h1, h2, h3, h4, h5, h6, h7⟩ := hag c
  refine ⟨(h c).1.trans ?_, (h c).2.1.trans ?_, (h c).2.2.1.trans ?_, (h c).2.2.2.1.trans ?_, (h c).2.2.2.2.1.trans ?_, (h c).2.2.2.2.2.1.trans ?_,
    (h c).2.2.2.2.2.2.1.trans ?_, (h c).2.2.2.2.2.2.2⟩
  · rw [e0]
  · rw [Cert.InSpec.rU, e0, h1, h4, h5, h6]
  · rw [Cert.InSpec.rU, e0, h1, h4]
  · rw [e0, h7]
  · rw [h0]
  · rw [h0]
  · rw [h1]

end Cert.Proof.InClaims
end
-- ==== Proof.OutKit.lean ====
module

public import proofs.«01_k».proof.Proof.Gen.OutIdeal.Frame
public import proofs.«01_k».proof.Proof.Gen.OutIdeal.Skeleton
public import Idealize.ShloMosaic.Lib.Pipeline.Value

@[expose] public section

set_option maxRecDepth 16384

noncomputable section

namespace Cert.OutIdeal.Hand

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S120x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S120x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S120x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S120x8192 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S120x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x8192 .bf16 := Memref.whole cc0_scratch0
abbrev scM0_1 : Memref sig .tc .vmem S120x8192 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves, as functions of the blocks it reads -/

/-- The rectangle of the four column groups (one RMS group each) of a row-complete block. -/
abbrev rg (o : ℕ) (h : ∀ a, (![0, o] : Fin 2 → ℕ) a + S120x2048.size a ≤ S120x8192.size a) : Rect S120x8192 :=
  Rect.unit (s := S120x8192) ![0, o] S120x2048.size h

/-- The same columns of the one-row norm weight. -/
abbrev rw1 (o : ℕ) (h : ∀ a, (![0, o] : Fin 2 → ℕ) a + S1x2048.size a ≤ S1x8192.size a) : Rect S1x8192 :=
  Rect.unit (s := S1x8192) ![0, o] S1x2048.size h

/-- The four stores of the gated, normalised rows, the last first. -/
def gnL (x0 x1 : Vec F S120x8192 .f32) (x2 : Vec F S1x8192 .f32) : List (View.Piece (Elt F) S120x8192 .f32) :=
  [⟨rg 6144 inb_S120x8192_S120x2048_0_6144,
      k0_pay11 (k0_pay8 (View.ld x0 (rg 6144 inb_S120x8192_S120x2048_0_6144)) (View.ld x1 (rg 6144 inb_S120x8192_S120x2048_0_6144)))
        (k0_pay9 (View.ld x0 (rg 6144 inb_S120x8192_S120x2048_0_6144)) (View.ld x1 (rg 6144 inb_S120x8192_S120x2048_0_6144)))
        (k0_pay10 (F := F)) (View.ld x2 (rw1 6144 inb_S1x8192_S1x2048_0_6144))⟩,
   ⟨rg 4096 inb_S120x8192_S120x2048_0_4096,
      k0_pay7 (View.ld x0 (rg 4096 inb_S120x8192_S120x2048_0_4096)) (View.ld x1 (rg 4096 inb_S120x8192_S120x2048_0_4096))
        (View.ld x2 (rw1 4096 inb_S1x8192_S1x2048_0_4096))⟩,
   ⟨rg 2048 inb_S120x8192_S120x2048_0_2048,
      k0_pay6 (k0_pay4 (View.ld x0 (rg 2048 inb_S120x8192_S120x2048_0_2048)) (View.ld x1 (rg 2048 inb_S120x8192_S120x2048_0_2048)))
        (k0_pay5 (View.ld x2 (rw1 2048 inb_S1x8192_S1x2048_0_2048)))⟩,
   ⟨rg 0 inb_S120x8192_S120x2048_0_0,
      k0_pay3 (View.ld x0 (rg 0 inb_S120x8192_S120x2048_0_0)) (View.ld x1 (rg 0 inb_S120x8192_S120x2048_0_0))
        (View.ld x2 (rw1 0 inb_S1x8192_S1x2048_0_0))⟩]

/-- The gated, normalised rows. -/
def gnV (x0 x1 : Vec F S120x8192 .f32) (x2 : Vec F S1x8192 .f32) : Vec F S120x8192 .f32 := View.canon (gnL x0 x1 x2)

/-- The two stores of the left operand of the product: eight zero rows under the codes of the rows. -/
def gbL (x0 x1 : Vec F S120x8192 .f32) (x2 : Vec F S1x8192 .f32) : List (View.Piece (Elt F) S128x8192 .bf16) :=
  [⟨Rect.unit (s := S128x8192) ![120, 0] S8x8192.size inb_S128x8192_S8x8192_120_0, k0_pay1 (k0_pay16 (F := F))⟩,
   ⟨Rect.unit (s := S128x8192) ![0, 0] S120x8192.size inb_S128x8192_S120x8192_0_0, k0_pay15 (gnV x0 x1 x2)⟩]

/-- The left operand of the product. -/
def gbV (x0 x1 : Vec F S120x8192 .f32) (x2 : Vec F S1x8192 .f32) : Vec F S128x8192 .bf16 := View.canon (gbL x0 x1 x2)

theorem zz : (![0, 0] : Fin 2 → ℕ) = fun _ => 0 := by funext a; fin_cases a <;> rfl

/-- One store through the whole of a buffer leaves its payload, whatever was there. -/
theorem read_store_whole {sig : RefSig} {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) : v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

theorem gnL_cover (x0 x1 : Vec F S120x8192 .f32) (x2 : Vec F S1x8192 .f32) (y : S120x8192.Idx) : ∃ p ∈ gnL x0 x1 x2, y ∈ p.1.set :=
  View.cover_of_tiled (gnL x0 x1 x2) S120x2048.size (by rfl) y

theorem gbL_cover (x0 x1 : Vec F S120x8192 .f32) (x2 : Vec F S1x8192 .f32) (y : S128x8192.Idx) : ∃ p ∈ gbL x0 x1 x2, y ∈ p.1.set := by
  have h0 : (y 0).val < 128 := (y 0).isLt
  have h1 : (y 1).val < 8192 := (y 1).isLt
  by_cases h : (y 0).val < 120
  · refine ⟨⟨Rect.unit (s := S128x8192) ![0, 0] S120x8192.size inb_S128x8192_S120x8192_0_0, k0_pay15 (gnV x0 x1 x2)⟩, .tail _ (.head _), ?_⟩
    refine (Rect.mem_set_unit (inb := inb_S128x8192_S120x8192_0_0)).mpr fun a => ?_
    fin_cases a
    · exact ⟨Nat.zero_le _, by show (y 0).val < 0 + 120; omega⟩
    · exact ⟨Nat.zero_le _, by show (y 1).val < 0 + 8192; omega⟩
  · refine ⟨⟨Rect.unit (s := S128x8192) ![120, 0] S8x8192.size inb_S128x8192_S8x8192_120_0, k0_pay1 (k0_pay16 (F := F))⟩, .head _, ?_⟩
    refine (Rect.mem_set_unit (inb := inb_S128x8192_S8x8192_120_0)).mpr fun a => ?_
    fin_cases a
    · exact ⟨by show 120 ≤ (y 0).val; omega, by show (y 0).val < 120 + 8; omega⟩
    · exact ⟨Nat.zero_le _, by show (y 1).val < 0 + 8192; omega⟩

end Cert.OutIdeal.Hand

end
-- ==== Proof.OutBody.lean ====
module

public import proofs.«01_k».proof.Proof.OutKit

@[expose] public section

set_option maxRecDepth 16384

noncomputable section

namespace Cert.OutIdeal.Hand

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, point by point -/

set_option maxHeartbeats 1000000 in
/-- At the first point: the rows are gated, normalised and quantised, and the first block of the product is written. -/
theorem kernelRun0_A (c : Dev nD) (i : grid0.Coords) (arg1 : Memref sig .tc .vmem S120x8192 .f32) (harg1 : arg1.IsWhole) (arg2 : Memref sig .tc .vmem S120x8192 .f32) (harg2 : arg2.IsWhole) (arg3 : Memref sig .tc .vmem S1x8192 .f32) (harg3 : arg3.IsWhole) (arg4 : Memref sig .tc .vmem S8192x256 .i8) (harg4 : arg4.IsWhole) (arg5 : Memref sig .tc .vmem S1x256 .f32) (harg5 : arg5.IsWhole) (arg6 : Memref sig .tc .vmem S120x256 .bf16) (harg6 : arg6.IsWhole) (arg7 : Memref sig .tc .vmem S120x8192 .i8) (harg7 : arg7.IsWhole) (arg8 : Memref sig .tc .vmem S120x1 .f32) (harg8 : arg8.IsWhole) (arg9 : Memref sig .tc .vmem S128x8192 .bf16) (harg9 : arg9.IsWhole) (arg10 : Memref sig .tc .vmem S120x8192 .f32) (harg10 : arg10.IsWhole) (hc0 : cond0_0 i)
    (x0 : Vec F S120x8192 .f32) (x1 : Vec F S120x8192 .f32) (x2 : Vec F S1x8192 .f32) (x3 : Vec F S8192x256 .i8) (x4 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 (gbV x0 x1 x2) x3 (k0_pay12 (gnV x0 x1 x2)) x4) ∗ owns (c : Thread nD τ) arg7 fullShare (k0_pay14 (gnV x0 x1 x2)) ∗ owns (c : Thread nD τ) arg8 fullShare (k0_pay12 (gnV x0 x1 x2)) ∗ owns (c : Thread nD τ) arg9 fullShare (gbV x0 x1 x2) ∗ (∃ d, owns (c : Thread nD τ) arg10 fullShare d)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10) K := by
    intro E K
    simp only [cc0_out_proj_eq_skeleton]; unfold cc0_out_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    have e1 : ∀ r : Rect S120x8192, View.readAt (Elt F) arg1.view r.toLoadRect (harg1.unread x0) = View.ld x0 r :=
      fun r => by rw [View.readAt_eq_ld, harg1.read_unread]
    have e2 : ∀ r : Rect S120x8192, View.readAt (Elt F) arg2.view r.toLoadRect (harg2.unread x1) = View.ld x1 r :=
      fun r => by rw [View.readAt_eq_ld, harg2.read_unread]
    have e3 : ∀ r : Rect S1x8192, View.readAt (Elt F) arg3.view r.toLoadRect (harg3.unread x2) = View.ld x2 r :=
      fun r => by rw [View.readAt_eq_ld, harg3.read_unread]
    have e4 : View.readAt (Elt F) arg4.view (Rect.unit ![0, 0] ![8192, 256] inb_S8192x256_S8192x256_0_0).toLoadRect (harg4.unread x3) = x3 := by
      rw [View.readAt_eq_ld, harg4.read_unread]; exact View.ld_unit_zero zz inb_S8192x256_S8192x256_0_0 x3
    have e5 : View.readAt (Elt F) arg5.view (Rect.unit ![0, 0] ![1, 256] inb_S1x256_S1x256_0_0).toLoadRect (harg5.unread x4) = x4 := by
      rw [View.readAt_eq_ld, harg5.read_unread]; exact View.ld_unit_zero zz inb_S1x256_S1x256_0_0 x4
    have hL : kernelRun0_A.sl.HS1_4 c arg1 harg1 arg2 harg2 arg3 harg3 x0 x1 x2 = gnL x0 x1 x2 := by
      unfold kernelRun0_A.sl.HS1_4 kernelRun0_A.sl.r kernelRun0_A.sl.r_1 kernelRun0_A.sl.r_2 kernelRun0_A.sl.r_3
      simp only [e1, e2, e3]; rfl
    have h106 : kernelRun0_A.sl.v106 c arg1 harg1 arg2 harg2 arg3 harg3 arg10 x0 x1 x2 = gnV x0 x1 x2 := by
      unfold kernelRun0_A.sl.v106
      rw [hL, View.readCov_eq_canon']
      exact View.ld_unit_zero zz inb_S120x8192_S120x8192_0_0 (View.canon (gnL x0 x1 x2))
    have hB : kernelRun0_A.sl.HS0_2 c arg1 harg1 arg2 harg2 arg3 harg3 arg10 x0 x1 x2 = gbL x0 x1 x2 := by
      unfold kernelRun0_A.sl.HS0_2; rw [h106]; rfl
    have h3 : kernelRun0_A.sl.v3 c arg1 harg1 arg2 harg2 arg3 harg3 arg9 arg10 x0 x1 x2 = gbV x0 x1 x2 := by
      unfold kernelRun0_A.sl.v3
      rw [hB, View.readCov_eq_canon']
      exact View.ld_unit_zero zz inb_S128x8192_S128x8192_0_0 (View.canon (gbL x0 x1 x2))
    have h7 : kernelRun0_A.sl.H7_1 c arg1 harg1 arg2 harg2 arg3 harg3 arg10 x0 x1 x2
        = [⟨Rect.unit ![0, 0] S120x1.size inb_S120x1_S120x1_0_0, k0_pay12 (gnV x0 x1 x2)⟩] := by
      unfold kernelRun0_A.sl.H7_1; rw [h106]
    have h8 : kernelRun0_A.sl.v8 c arg1 harg1 arg2 harg2 arg3 harg3 arg8 arg10 x0 x1 x2 = k0_pay12 (gnV x0 x1 x2) := by
      unfold kernelRun0_A.sl.v8
      rw [h7]; exact View.readCov_unit_zero arg8.view zz inb_S120x1_S120x1_0_0 _
    rw [e4, e5, hL, h106, hB, h3, h7, h8]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      exact read_store_whole arg6.view f5 zz inb_S120x256_S120x256_0_0 _
    isplitl [H6]
    · iexists _; isplitr; swap; · iexact H6
      ipureintro
      exact read_store_whole arg7.view f6 zz inb_S120x8192_S120x8192_0_0 _
    isplitl [H7]
    · iexists _; isplitr; swap; · iexact H7
      ipureintro
      exact read_store_whole arg8.view f7 zz inb_S120x1_S120x1_0_0 _
    isplitl [HS0]
    · iexists _; isplitr; swap; · iexact HS0
      ipureintro
      exact View.read_writes_eq_canon arg9.view fs0 _ (gbL_cover x0 x1 x2)
    iexists _, _; isplitr; swap; · iexact HS1
    ipureintro; rfl

set_option maxHeartbeats 1000000 in
/-- At every later point: the codes and scales stay, and the point's block of the product is written from them. -/
theorem kernelRun0_B (c : Dev nD) (i : grid0.Coords) (arg1 : Memref sig .tc .vmem S120x8192 .f32) (harg1 : arg1.IsWhole) (arg2 : Memref sig .tc .vmem S120x8192 .f32) (harg2 : arg2.IsWhole) (arg3 : Memref sig .tc .vmem S1x8192 .f32) (harg3 : arg3.IsWhole) (arg4 : Memref sig .tc .vmem S8192x256 .i8) (harg4 : arg4.IsWhole) (arg5 : Memref sig .tc .vmem S1x256 .f32) (harg5 : arg5.IsWhole) (arg6 : Memref sig .tc .vmem S120x256 .bf16) (harg6 : arg6.IsWhole) (arg7 : Memref sig .tc .vmem S120x8192 .i8) (harg7 : arg7.IsWhole) (arg8 : Memref sig .tc .vmem S120x1 .f32) (harg8 : arg8.IsWhole) (arg9 : Memref sig .tc .vmem S128x8192 .bf16) (harg9 : arg9.IsWhole) (arg10 : Memref sig .tc .vmem S120x8192 .f32) (harg10 : arg10.IsWhole) (hc0 : ¬cond0_0 i)
    (x0 : Vec F S120x8192 .f32) (x1 : Vec F S120x8192 .f32) (x2 : Vec F S1x8192 .f32) (x3 : Vec F S8192x256 .i8) (x4 : Vec F S1x256 .f32)
    (y7 : Vec F S120x8192 .i8) (y8 : Vec F S120x1 .f32) (y9 : Vec F S128x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y7 ∗ owns (c : Thread nD τ) arg8 fullShare y8 ∗ owns (c : Thread nD τ) arg9 fullShare y9 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 y9 x3 y8 x4) ∗ owns (c : Thread nD τ) arg7 fullShare y7 ∗ owns (c : Thread nD τ) arg8 fullShare y8 ∗ owns (c : Thread nD τ) arg9 fullShare y9 ∗ (∃ d, owns (c : Thread nD τ) arg10 fullShare d)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10) K := by
    intro E K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0
    sl_exec (disch := first | sl_exact hc0)
    sl_step
    have e4 : View.readAt (Elt F) arg4.view (Rect.unit ![0, 0] ![8192, 256] inb_S8192x256_S8192x256_0_0).toLoadRect (harg4.unread x3) = x3 := by
      rw [View.readAt_eq_ld, harg4.read_unread]; exact View.ld_unit_zero zz inb_S8192x256_S8192x256_0_0 x3
    have e5 : View.readAt (Elt F) arg5.view (Rect.unit ![0, 0] ![1, 256] inb_S1x256_S1x256_0_0).toLoadRect (harg5.unread x4) = x4 := by
      rw [View.readAt_eq_ld, harg5.read_unread]; exact View.ld_unit_zero zz inb_S1x256_S1x256_0_0 x4
    have e8 : View.readAt (Elt F) arg8.view (Rect.unit ![0, 0] ![120, 1] inb_S120x1_S120x1_0_0).toLoadRect (harg8.unread y8) = y8 := by
      rw [View.readAt_eq_ld, harg8.read_unread]; exact View.ld_unit_zero zz inb_S120x1_S120x1_0_0 y8
    have e9 : View.readAt (Elt F) arg9.view (Rect.unit ![0, 0] ![128, 8192] inb_S128x8192_S128x8192_0_0).toLoadRect (harg9.unread y9) = y9 := by
      rw [View.readAt_eq_ld, harg9.read_unread]; exact View.ld_unit_zero zz inb_S128x8192_S128x8192_0_0 y9
    rw [e4, e5, e8, e9]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      exact read_store_whole arg6.view f5 zz inb_S120x256_S120x256_0_0 _
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexists _, _; isplitr; swap; · iexact HS1
    ipureintro; rfl

end Cert.OutIdeal.Hand

end
-- ==== Proof.OutRun.lean ====
module

public import proofs.«01_k».proof.Proof.OutBody
public import Idealize.ShloMosaic.Lib.Claim
public import Idealize.ShloMosaic.Lib.Pipeline.TableIdle

@[expose] public section

set_option maxRecDepth 16384

noncomputable section

namespace Cert.OutIdeal.Hand

open Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first point. -/
def t0 : Fin cfg0.N := ⟨0, Nat.lt_of_lt_of_eq (by decide) N_0.symm⟩

/-- The gated, normalised rows: of the blocks read at the first point. -/
def gnA (c : Dev nD) : Vec F S120x8192 .f32 := gnV (iblk m c 0 t0) (iblk m c 1 t0) (iblk m c 2 t0)

/-- The left operand of the product, kept from the first point on. -/
def gbA (c : Dev nD) : Vec F S128x8192 .bf16 := gbV (iblk m c 0 t0) (iblk m c 1 t0) (iblk m c 2 t0)

/-- The block of the product that a point writes. -/
def outA (c : Dev nD) (t : Fin cfg0.N) : Vec F S120x256 .bf16 :=
  k0_pay2 (gbA m c) (iblk m c 3 t) (k0_pay12 (gnA m c)) (iblk m c 4 t)

/-- What holds between points: the scratch buffers at anything before the first, and from then on the left operand in the first of
    them. -/
def PhiT (c : Dev nD) (n : ℕ) : sProp 𝕄 :=
  if n = 0 then Pipeline.ΦA spec0 c
  else iprop(iprop(owns (c : Thread nD τ) scM0_0 fullShare (gbA m c) ∗ (∃ d, owns (c : Thread nD τ) scM0_1 fullShare d)) ∗ (∃ r, prngReg c r))

/-- The proof data: the inputs at their blocks; the point's block of the product; the codes and the scales, one block each for all
    points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outA m c t
    | ⟨6, _⟩ => k0_pay14 (gnA m c)
    | ⟨7, _⟩ => k0_pay12 (gnA m c)
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outA m c t := by dsimp only [dats]
theorem after0_6 (c : Dev nD) (t : Fin cfg0.N) : (dats m 0 c).after 6 t = k0_pay14 (gnA m c) := by dsimp only [dats]
theorem after0_7 (c : Dev nD) (t : Fin cfg0.N) : (dats m 0 c).after 7 t = k0_pay12 (gnA m c) := by dsimp only [dats]

theorem Phi_zero (c : Dev nD) : PhiT (F := F) m c 0 = Pipeline.ΦA spec0 c := if_pos rfl
theorem Phi_pos (c : Dev nD) {n : ℕ} (h : n ≠ 0) : PhiT m c n
    = iprop(iprop(owns (c : Thread nD τ) scM0_0 fullShare (gbA m c) ∗ (∃ d, owns (c : Thread nD τ) scM0_1 fullShare d)) ∗ (∃ r, prngReg c r)) :=
  if_neg h

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The codes and the scales keep their blocks -/

theorem N16 : cfg0.N = 16 := N_0

/-- The staging buffers of the codes and of the scales hold nothing yet at the first point only. -/
theorem fresh6 : ∀ n, n ≤ cfg0.N → cfg0.fresh 6 n = (n == 0 || n == 16) :=
  Pipeline.Cfg.fresh_tab (cfg := cfg0) 6 (fun n => n == 0 || n == 16) rfl (by decide +kernel)
theorem fresh7 : ∀ n, n ≤ cfg0.N → cfg0.fresh 7 n = (n == 0 || n == 16) :=
  Pipeline.Cfg.fresh_tab (cfg := cfg0) 7 (fun n => n == 0 || n == 16) rfl (by decide +kernel)

theorem before0_6 (c : Dev nD) (t : Fin cfg0.N) (ht : t.val ≠ 0) (d) : (dats m 0 c).before 6 t d = k0_pay14 (gnA m c) := by
  rw [(dats m 0 c).before_out_traj 6 rfl (fun _ _ => rfl) (fun t h _ _ => by rw [after0_6, after0_6]) t.val t rfl d,
    fresh6 t.val t.isLt.le, if_neg (by have := Nat.lt_of_lt_of_eq t.isLt N16; simp only [Bool.or_eq_true, beq_iff_eq]; omega), after0_6]
theorem before0_7 (c : Dev nD) (t : Fin cfg0.N) (ht : t.val ≠ 0) (d) : (dats m 0 c).before 7 t d = k0_pay12 (gnA m c) := by
  rw [(dats m 0 c).before_out_traj 7 rfl (fun _ _ => rfl) (fun t h _ _ => by rw [after0_7, after0_7]) t.val t rfl d,
    fresh7 t.val t.isLt.le, if_neg (by have := Nat.lt_of_lt_of_eq t.isLt N16; simp only [Bool.or_eq_true, beq_iff_eq]; omega), after0_7]

/-- A buffer that holds its block for good is left as the pipeline asks, whether or not the point writes it back. -/
theorem leaves_of_after (c : Dev nD) (w : Fin cfg0.W) (t : Fin cfg0.N) (d) (h : (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases cfg0.idle w (cfg0.grid.coords t) with
  | false => exact .rfl
  | true =>
    cases (cfg0.win w).flush t with
    | true => exact .rfl
    | false =>
      dsimp only
      iintro H
      iexists d
      rw [h]; iexact H

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl,
    Phi_pos m c (Nat.succ_ne_zero _)]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from rfl, after0_5]
  by_cases h0 : t.val = 0
  · obtain rfl : t = t0 := Fin.ext h0
    rw [show t0.val = 0 from rfl, Phi_zero, PhiA0_eq]
    rw [show (dats m 0 c).leavesExact 6 t0 = owns (c : Thread nD τ) (ms0_6 t0) fullShare ((dats m 0 c).after 6 t0) from rfl, after0_6]
    rw [show (dats m 0 c).leavesExact 7 t0 = owns (c : Thread nD τ) (ms0_7 t0) fullShare ((dats m 0 c).after 7 t0) from rfl, after0_7]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ _ _ ((hcond0_0 t0).mpr rfl) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi_pos m c h0]
    have hc : ¬ t.val % 16 = 0 := by omega
    simp only [before0_6 m c t h0, before0_7 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => hc ((hcond0_0 t).mp h)) (iblk m c 0 t) (iblk m c 1 t) (iblk m c 2 t) (iblk m c 3 t) (iblk m c 4 t) (k0_pay14 (gnA m c)) (k0_pay12 (gnA m c)) (gbA m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_of_after m c 6 t d6 ((before0_6 m c t h0 d6).trans (after0_6 m c t).symm)); rw [after0_6]; iexact H6
    iapply (leaves_of_after m c 7 t d7 ((before0_7 m c t h0 d7).trans (after0_7 m c t).symm)); rw [after0_7]; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_in (c : Dev nD) : Pipeline.ΦA spec0 c ⊢ PhiT (F := F) m c 0 := by rw [Phi_zero]
theorem Phi_out (c : Dev nD) : PhiT (F := F) m c 16 ⊢ Pipeline.ΦA spec0 c := by
  rw [Phi_pos m c (by decide), PhiA0_eq]
  iintro ⟨⟨HS0, HS1⟩, Hg⟩
  isplitl [HS0 HS1]
  · isplitl [HS0]
    · iexists _; iexact HS0
    iexact HS1
  iexact Hg

set_option backward.isDefEq.respectTransparency.types false in
/-- The launch: the arrays end as the proof data say, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.OutIdeal.Hand

end
-- ==== Proof.OutSpec.lean ====
module

public import proofs.«01_k».proof.Proof.Gen.RefOutIdeal.Run
public import proofs.«01_k».proof.Proof.Quant
public import Idealize.ShloMosaic.Lib.Pointwise

/-! # The gated, normalised, quantised projection: what the reference computes, entry by entry

The entry at row `r` and column `d` is `y · silu z`, divided by the root mean square of the entries of the same row in the
same group of 2048 columns, times the weight of the column.  A row is then quantised to integers between −127 and 127 by
one scale of its own.  Over the extended reals an integer code read back as a float is the clipped, rounded number itself. -/

@[expose] public section

set_option maxRecDepth 16384

noncomputable section

namespace Cert.OutSpec
open Cert.RefOutIdeal Cert.RefOutIdeal.Gen Idealize.ShloMosaic Idealize.ShloMosaic.TcCoe Cert.Quant

/-- `y · z · sigmoid z` at one entry. -/
def gz (y z : FVec Ideal S120x8192 .f32) (r : Fin 120) (d : Fin 8192) : EReal :=
  y (ix2 r d) * (z (ix2 r d) * Ideal.logistic (z (ix2 r d)))

/-- The column `k` of the group of 2048 columns in which `d` lies. -/
def col (d : Fin 8192) (k : Fin 2048) : Fin 8192 := ⟨d.val / 2048 * 2048 + k.val, by omega⟩

/-- The normalised entry. -/
def gn (y z : FVec Ideal S120x8192 .f32) (w : FVec Ideal S8192 .f32) (r : Fin 120) (d : Fin 8192) : EReal :=
  gz y z r d * Ideal.rsqrt (Ideal.div (∑ k : Fin 2048, gz y z r (col d k) * gz y z r (col d k)) (Ideal.ofBits .f32 1157627904#32)
    + Ideal.ofBits .f32 925353388#32) * w (ix1 d)

/-- The reference's gate. -/
def rGz (y z : FVec Ideal S120x8192 .f32) : FVec Ideal S120x8192 .f32 :=
  mulf y (mulf z (Host.divf (broadcastInDim S120x8192 ![] bcast_S_S120x8192 (constant S_ .f32 0x3F800000#32))
    (addf (broadcastInDim S120x8192 ![] bcast_S_S120x8192 (constant S_ .f32 0x3F800000#32)) (Host.exp (Host.negf z)))))

/-- The reference's grouped normalisation. -/
def rNorm (a : FVec Ideal S120x8192 .f32) (w : FVec Ideal S8192 .f32) : FVec Ideal S120x8192 .f32 :=
  mulf (shapeCast S120x8192 (mulf (shapeCast S120x4x2048 a shapeCasts_S120x8192_S120x4x2048)
      (broadcastInDim S120x4x2048 ![0, 1, 2] bcast_S120x4x1_S120x4x2048_0_1_2
        (Host.rsqrt (addf (Host.divf (broadcastInDim S120x4x1 ![0, 1] bcast_S120x4_S120x4x1_0_1
            (Host.reduceAdd (mulf (shapeCast S120x4x2048 a shapeCasts_S120x8192_S120x4x2048) (shapeCast S120x4x2048 a shapeCasts_S120x8192_S120x4x2048))
              (constant S_ .f32 0x00000000#32) reducesTo_S120x4x2048_S120x4_d2 h_S_))
          (broadcastInDim S120x4x1 ![] bcast_S_S120x4x1 (constant S_ .f32 0x45000000#32)))
          (broadcastInDim S120x4x1 ![] bcast_S_S120x4x1 (constant S_ .f32 0x3727C5AC#32)))))) shapeCasts_S120x4x2048_S120x8192)
    (broadcastInDim S120x8192 ![0, 1] bcast_S1x8192_S120x8192_0_1 (broadcastInDim S1x8192 ![1] bcast_S8192_S1x8192_1 w))

/-- The reference's scale of each row. -/
def rScale (a : FVec Ideal S120x8192 .f32) : FVec Ideal S120x1 .f32 :=
  select (cmpf .oeq (broadcastInDim S120x1 ![0] bcast_S120_S120x1_0 (Host.reduce FloatOps.maximumf (Host.absf a) (constant S_ .f32 0xFF800000#32) reducesTo_S120x8192_S120_d1 h_S_))
      (broadcastInDim S120x1 ![] bcast_S_S120x1 (constant S_ .f32 0x00000000#32)))
    (broadcastInDim S120x1 ![] bcast_S_S120x1 (id (constant S_ .f32 0x3F800000#32)))
    (Host.divf (broadcastInDim S120x1 ![0] bcast_S120_S120x1_0 (Host.reduce FloatOps.maximumf (Host.absf a) (constant S_ .f32 0xFF800000#32) reducesTo_S120x8192_S120_d1 h_S_))
      (broadcastInDim S120x1 ![] bcast_S_S120x1 (constant S_ .f32 0x42FE0000#32)))

/-- The reference's codes. -/
def rCode (a : FVec Ideal S120x8192 .f32) : IVec S120x8192 8 :=
  trunci 8 (fptosi 32 (minimumf (broadcastInDim S120x8192 ![] bcast_S_S120x8192 (id (constant S_ .f32 0x42FE0000#32)))
    (maximumf (broadcastInDim S120x8192 ![] bcast_S_S120x8192 (id (constant S_ .f32 0xC2FE0000#32)))
      (Host.roundeven (Host.divf a (broadcastInDim S120x8192 ![0, 1] bcast_S120x1_S120x8192_0_1 (rScale a))))))) natLt_8_32

/-- The reference's product of codes, rescaled. -/
def rOut (q : IVec S120x8192 8) (s : FVec Ideal S120x1 .f32) (w : IVec S8192x4096 8) (ws : FVec Ideal S4096 .f32) : FVec Ideal S120x4096 .bf16 :=
  truncf .bf16 (mulf (mulf (Host.dotGeneral dot_S120x8192_S8192x4096_S120x4096_1_0_0_1_n_n none
        (truncf .bf16 (sitofp .f32 (extsi 32 q natLt_8_32)) bitsLt_bf16_f32)
        (truncf .bf16 (sitofp .f32 (extsi 32 w natLt_8_32)) bitsLt_bf16_f32))
      (broadcastInDim S120x4096 ![0, 1] bcast_S120x1_S120x4096_0_1 (broadcastInDim S120x1 ![0] bcast_S120_S120x1_0 (shapeCast S120 s shapeCasts_S120x1_S120))))
    (broadcastInDim S120x4096 ![0, 1] bcast_S1x4096_S120x4096_0_1 (broadcastInDim S1x4096 ![1] bcast_S4096_S1x4096_1 ws))) bitsLt_bf16_f32

variable (m : (ℓ : Loc nD τ sig) → Buf (Elt Ideal) ℓ) (c : Dev nD)

/-- The normalised rows of the reference's arguments. -/
abbrev rGn : FVec Ideal S120x8192 .f32 :=
  rNorm (rGz (m ((c.tc : Thread nD τ).loc main_arg0)) (m ((c.tc : Thread nD τ).loc main_arg1))) (m ((c.tc : Thread nD τ).loc main_arg2))

theorem res1 : Value.res_out1 m c = rCode (rGn m c) := rfl
theorem res2 : Value.res_out2 m c = broadcastInDim S120x1 ![0] bcast_S120_S120x1_0 (shapeCast S120 (rScale (rGn m c)) shapeCasts_S120x1_S120) := rfl
theorem res0 : Value.res_out0 m c = rOut (rCode (rGn m c)) (rScale (rGn m c)) (m ((c.tc : Thread nD τ).loc main_arg3)) (m ((c.tc : Thread nD τ).loc main_arg4)) := rfl

theorem rGz_at (y z : FVec Ideal S120x8192 .f32) (r : Fin 120) (d : Fin 8192) : rGz y z (ix2 r d) = gz y z r d := by
  unfold rGz gz Ideal.logistic
  pointwise

/-- The reference's normalised rows, entry by entry. -/
theorem rNorm_at (y z : FVec Ideal S120x8192 .f32) (w : FVec Ideal S8192 .f32) (r : Fin 120) (d : Fin 8192) :
    rNorm (rGz y z) w (ix2 r d) = gn y z w r d := by
  unfold rNorm gn
  pointwise
  simp only [rGz_at]
  rfl

/-- Dropping the unit axis of the scales and putting it back changes nothing. -/
theorem rScale_col (s : FVec Ideal S120x1 .f32) : broadcastInDim S120x1 ![0] bcast_S120_S120x1_0 (shapeCast S120 s shapeCasts_S120x1_S120) = s := by
  funext j
  idx_vars j
  pointwise
  exact congrArg s (congrArg (ix2 j0) (Subsingleton.elim _ _))

/-- The code of an entry is the clipped, rounded quotient by its row's scale. -/
theorem rCode_at (a : FVec Ideal S120x8192 .f32) (r : Fin 120) (d : Fin 8192) :
    rCode a (ix2 r d) = FloatOps.fptosi (F := Ideal) (φ := .f32) 8 (q (Ideal.div (a (ix2 r d)) (rScale a (ix2 r 0)))) := by
  unfold rCode
  pointwise
  exact code_eq _

theorem rOut_at (c : IVec S120x8192 8) (s : FVec Ideal S120x1 .f32) (w : IVec S8192x4096 8) (ws : FVec Ideal S4096 .f32) (r : Fin 120) (e : Fin 4096) :
    rOut c s w ws (ix2 r e) = (∑ x : Fin 8192, FloatOps.sitofp (F := Ideal) .f32 (BitVec.signExtend 32 (c (ix2 r x))) *
            FloatOps.sitofp (F := Ideal) .f32 (BitVec.signExtend 32 (w (ix2 x e)))) * s (ix2 r 0) * ws (ix1 e) := by
  unfold rOut
  pointwise

end Cert.OutSpec
end
-- ==== Proof.OutPure.lean ====
module

public import proofs.«01_k».proof.Proof.OutKit
public import proofs.«01_k».proof.Proof.OutSpec
public import Idealize.ShloMosaic.Lib.Pointwise
public import Idealize.ShloMosaic.Lib.Pipeline.ValueKit

/-! # What one grid point stores, entry by entry, over the extended reals -/

@[expose] public section

set_option maxRecDepth 16384

noncomputable section

namespace Cert.OutIdeal.Val
open Cert.OutIdeal Cert.OutIdeal.Gen Cert.OutIdeal.Hand Idealize.ShloMosaic Idealize.ShloMosaic.TcCoe Cert.OutSpec Cert.Quant

/-- The normalised rows: each group of columns is normalised by the body's store of that group. -/
theorem gnV_at (y z : FVec Ideal S120x8192 .f32) (w : FVec Ideal S8192 .f32) (w1 : FVec Ideal S1x8192 .f32)
    (hw : ∀ d : Fin 8192, w1 (ix2 0 d) = w (ix1 d)) (r : Fin 120) (d : Fin 8192) :
    gnV (F := Ideal) y z w1 (ix2 r d) = gn y z w r d := by
  unfold gnV gnL
  canon_tiles x h
  case piece0 =>
    idx_vars x
    obtain rfl : r = x0 := Fin.ext h0
    rw [show d = ⟨6144 + x1.val, by omega⟩ from Fin.ext h1]
    have hc : ∀ k : Fin 2048, col ⟨6144 + x1.val, by omega⟩ k = ⟨6144 + k.val, by omega⟩ := fun k => Fin.ext (by
      show (6144 + x1.val) / 2048 * 2048 + k.val = 6144 + k.val
      have := x1.isLt
      omega)
    unfold gn gz
    simp only [hc, ← hw]
    open_payloads
    pointwise
  case piece1 =>
    idx_vars x
    obtain rfl : r = x0 := Fin.ext h0
    rw [show d = ⟨4096 + x1.val, by omega⟩ from Fin.ext h1]
    have hc : ∀ k : Fin 2048, col ⟨4096 + x1.val, by omega⟩ k = ⟨4096 + k.val, by omega⟩ := fun k => Fin.ext (by
      show (4096 + x1.val) / 2048 * 2048 + k.val = 4096 + k.val
      have := x1.isLt
      omega)
    unfold gn gz
    simp only [hc, ← hw]
    open_payloads
    pointwise
  case piece2 =>
    idx_vars x
    obtain rfl : r = x0 := Fin.ext h0
    rw [show d = ⟨2048 + x1.val, by omega⟩ from Fin.ext h1]
    have hc : ∀ k : Fin 2048, col ⟨2048 + x1.val, by omega⟩ k = ⟨2048 + k.val, by omega⟩ := fun k => Fin.ext (by
      show (2048 + x1.val) / 2048 * 2048 + k.val = 2048 + k.val
      have := x1.isLt
      omega)
    unfold gn gz
    simp only [hc, ← hw]
    open_payloads
    pointwise
  case piece3 =>
    idx_vars x
    obtain rfl : r = x0 := Fin.ext h0
    rw [show d = ⟨x1.val, by omega⟩ from Fin.ext h1]
    have hc : ∀ k : Fin 2048, col ⟨x1.val, by omega⟩ k = ⟨k.val, by omega⟩ := fun k => Fin.ext (by
      show x1.val / 2048 * 2048 + k.val = k.val
      have := x1.isLt
      omega)
    unfold gn gz
    simp only [hc, ← hw]
    open_payloads
    pointwise

/-- The kernel's scale of each row is the reference's. -/
theorem scale_at (a : FVec Ideal S120x8192 .f32) (r : Fin 120) (k : Fin 1) : k0_pay12 (F := Ideal) a (ix2 r k) = rScale a (ix2 r k) := by
  unfold k0_pay12 rScale
  simp only [id_eq]
  pointwise

/-- The kernel's codes are the reference's. -/
theorem code_at (a : FVec Ideal S120x8192 .f32) : k0_pay14 (F := Ideal) a = rCode a := by
  funext j
  idx_vars j
  refine Eq.trans ?_ (rCode_at a j0 j1).symm
  unfold k0_pay14 k0_pay13
  pointwise
  rw [scale_at]
  rfl

/-- The left operand of the product is the clipped, rounded quotient. -/
theorem gb_at (y z : FVec Ideal S120x8192 .f32) (w1 : FVec Ideal S1x8192 .f32) (r : Fin 120) (d : Fin 8192) :
    gbV (F := Ideal) y z w1 (ix2 ⟨r.val, by omega⟩ d) = q (Ideal.div (gnV (F := Ideal) y z w1 (ix2 r d)) (rScale (gnV (F := Ideal) y z w1) (ix2 r 0))) := by
  have hcov := gbL_cover (F := Ideal) y z w1 (ix2 ⟨r.val, by omega⟩ d)
  unfold gbV
  unfold gbL at hcov ⊢
  canon_tiles x h using hcov
  case piece0 =>
    exfalso
    have := r.isLt
    have h0' : r.val = 120 + (x 0).val := h0
    omega
  case piece1 =>
    idx_vars x
    obtain rfl : r = x0 := Fin.ext h0
    obtain rfl : d = x1 := Fin.ext h1
    unfold k0_pay15 k0_pay13
    pointwise
    rw [scale_at]
    rfl

/-- What a point stores of the product, entry by entry. -/
theorem out_at (g : FVec Ideal S128x8192 .bf16) (w : IVec S8192x256 8) (s : FVec Ideal S120x1 .f32) (v : FVec Ideal S1x256 .f32) (r : Fin 120) (k : Fin 256) :
    k0_pay2 (F := Ideal) g w s v (ix2 r k) = (∑ x : Fin 8192, g (ix2 ⟨r.val, by omega⟩ x) * FloatOps.sitofp (F := Ideal) .bf16 (w (ix2 x k))) * s (ix2 r 0) * v (ix2 0 k) := by
  unfold k0_pay2
  pointwise

end Cert.OutIdeal.Val
end
-- ==== Proof.OutValue.lean ====
module

public import proofs.«01_k».proof.Proof.OutRun
public import proofs.«01_k».proof.Proof.OutPure

/-! # The arrays the projection leaves are the reference's -/

@[expose] public section

set_option maxRecDepth 16384

noncomputable section

namespace Cert.OutIdeal.Val
open Cert.OutIdeal Cert.OutIdeal.Gen Cert.OutIdeal.Hand Idealize.ShloMosaic Idealize.ShloMosaic.TcCoe Cert.OutSpec Cert.Quant
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, t.val]
    ∧ win0_4.index t = ![0, t.val] ∧ win0_5.index t = ![0, t.val] ∧ win0_6.index t = ![0, 0] ∧ win0_7.index t = ![0, 0] :=
  (by decide +kernel : ∀ t : Fin grid0.N, _)

theorem iblk0 (c : Dev nD) (t : Fin cfg0.N) : (iblk m c 0 t : FVec Ideal S120x8192 .f32) = m ((c : Thread nD τ).loc main_arg0) := by
  blk_ext! [iblk, V, idx t]

theorem iblk1 (c : Dev nD) (t : Fin cfg0.N) : (iblk m c 1 t : FVec Ideal S120x8192 .f32) = m ((c : Thread nD τ).loc main_arg1) := by
  blk_ext! [iblk, V, idx t]

theorem iblk2 (c : Dev nD) (t : Fin cfg0.N) (d : Fin 8192) :
    (iblk m c 2 t : FVec Ideal S1x8192 .f32) (ix2 0 d) = (m ((c : Thread nD τ).loc main_arg2) : FVec Ideal S8192 .f32) (ix1 d) := by
  blk_point [iblk, V, idx t]

theorem iblk3 (c : Dev nD) (t : Fin cfg0.N) (x : Fin 8192) (k : Fin 256) (h : t.val * 256 + k.val < 4096) :
    (iblk m c 3 t : IVec S8192x256 8) (ix2 x k) = (m ((c : Thread nD τ).loc main_arg3) : IVec S8192x4096 8) (ix2 x ⟨t.val * 256 + k.val, h⟩) := by
  blk_point [iblk, V, idx t]

theorem iblk4 (c : Dev nD) (t : Fin cfg0.N) (k : Fin 256) (h : t.val * 256 + k.val < 4096) :
    (iblk m c 4 t : FVec Ideal S1x256 .f32) (ix2 0 k) = (m ((c : Thread nD τ).loc main_arg4) : FVec Ideal S4096 .f32) (ix1 ⟨t.val * 256 + k.val, h⟩) := by
  blk_point [iblk, V, idx t]

/-- The normalised rows of the arguments, the reference's term. -/
abbrev gnR (c : Dev nD) : FVec Ideal S120x8192 .f32 :=
  rNorm (rGz (m ((c : Thread nD τ).loc main_arg0)) (m ((c : Thread nD τ).loc main_arg1))) (m ((c : Thread nD τ).loc main_arg2))

theorem gnA_eq (c : Dev nD) : gnA m c = gnR m c := by
  funext j
  idx_vars j
  unfold gnA
  refine (gnV_at _ _ (m ((c : Thread nD τ).loc main_arg2)) _ (fun d => iblk2 m c t0 d) j0 j1).trans ?_
  rw [iblk0, iblk1]
  exact (rNorm_at _ _ _ j0 j1).symm

theorem scaleA_eq (c : Dev nD) : k0_pay12 (F := Ideal) (gnA m c) = rScale (gnR m c) := by
  rw [gnA_eq]
  funext j
  idx_vars j
  exact scale_at _ j0 j1

theorem codeA_eq (c : Dev nD) : k0_pay14 (F := Ideal) (gnA m c) = rCode (gnR m c) := by
  rw [gnA_eq]
  exact code_at _

theorem gbA_at (c : Dev nD) (r : Fin 120) (d : Fin 8192) :
    gbA m c (ix2 ⟨r.val, by omega⟩ d) = q (Ideal.div (gnR m c (ix2 r d)) (rScale (gnR m c) (ix2 r 0))) := by
  rw [← gnA_eq]
  exact gb_at _ _ _ r d

/-- A one-byte integer read directly or through a wider integer is the same number. -/
theorem widen_eq (b : BitVec 8) : FloatOps.sitofp (F := Ideal) .bf16 b = FloatOps.sitofp (F := Ideal) .f32 (BitVec.signExtend 32 b) := by
  show ((b.toInt : ℝ) : EReal) = (((BitVec.signExtend 32 b).toInt : ℝ) : EReal)
  rw [BitVec.toInt_signExtend_of_le (by norm_num)]

/-- One entry of the product's block of columns at a point. -/
theorem outA_at (c : Dev nD) (t : Fin cfg0.N) (r : Fin 120) (k : Fin 256) (h : t.val * 256 + k.val < 4096) :
    outA m c t (ix2 r k) = rOut (rCode (gnR m c)) (rScale (gnR m c)) (m ((c : Thread nD τ).loc main_arg3)) (m ((c : Thread nD τ).loc main_arg4))
      (ix2 r ⟨t.val * 256 + k.val, h⟩) := by
  refine Eq.trans ?_ (rOut_at _ _ _ _ _ _).symm
  unfold outA
  refine (out_at _ _ _ _ r k).trans ?_
  rw [scaleA_eq, iblk4 m c t k h]
  refine congrArg (fun a : EReal => a * rScale (gnR m c) (ix2 r 0) * (m ((c : Thread nD τ).loc main_arg4) : FVec Ideal S4096 .f32) (ix1 ⟨t.val * 256 + k.val, h⟩))
    (Finset.sum_congr rfl fun x _ => ?_)
  rw [gbA_at, iblk3 m c t x k h, rCode_at, code_back]
  rw [widen_eq]

theorem final5 (c : Dev nD) : (dats m 0 c).arrAt 5 (cfgs 0).N =
    rOut (rCode (gnR m c)) (rScale (gnR m c)) (m ((c : Thread nD τ).loc main_arg3)) (m ((c : Thread nD τ).loc main_arg4)) := by
  refine (dats m 0 c).arrAt_eq_of_covers 5 _ (by decide +kernel) fun t _ y => ?_
  have ht : t.val < 16 := t.isLt.trans_eq N_0
  have h1 : (y 1).val < 256 := (y 1).isLt
  have e := outA_at m c t (y 0) (y 1) (by omega)
  blk_simp
  rw [after0_5]
  revert e
  generalize rOut (rCode (gnR m c)) (rScale (gnR m c)) (m ((c : Thread nD τ).loc main_arg3)) (m ((c : Thread nD τ).loc main_arg4)) = G
  generalize outA m c t = H
  intro e
  have e0 : H y = H (ix2 (y 0) (y 1)) := congrArg H (by funext a; fin_cases a <;> rfl)
  refine e0.trans (e.trans (congrArg G ?_))
  blk_ext [idx t]

theorem final6 (c : Dev nD) : (dats m 0 c).arrAt 6 (cfgs 0).N = rCode (gnR m c) := by
  refine (dats m 0 c).arrAt_eq_of_covers 6 _ (by decide +kernel) fun t _ y => ?_
  blk_simp
  rw [after0_6, codeA_eq]
  generalize rCode (gnR m c) = G
  refine congrArg G ?_
  blk_ext [idx t]

theorem final7 (c : Dev nD) : (dats m 0 c).arrAt 7 (cfgs 0).N =
    broadcastInDim Cert.RefOutIdeal.S120x1 ![0] Cert.RefOutIdeal.Gen.bcast_S120_S120x1_0 (shapeCast Cert.RefOutIdeal.S120 (rScale (gnR m c)) Cert.RefOutIdeal.Gen.shapeCasts_S120x1_S120) := by
  rw [rScale_col]
  refine (dats m 0 c).arrAt_eq_of_covers 7 _ (by decide +kernel) fun t _ y => ?_
  blk_simp
  rw [after0_7, scaleA_eq]
  generalize rScale (gnR m c) = G
  refine congrArg G ?_
  blk_ext [idx t]

/-- The run of the kernel's program: the three results are the reference's terms of the arguments, which end unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v2_0)
          = rOut (rCode (gnR m c)) (rScale (gnR m c)) (m ((c : Thread nD τ).loc main_arg3)) (m ((c : Thread nD τ).loc main_arg4))
      ∧ r.2.mem ((c.tc : Thread nD τ).loc main_v2_1) = rCode (gnR m c)
      ∧ r.2.mem ((c.tc : Thread nD τ).loc main_v2_2) = broadcastInDim Cert.RefOutIdeal.S120x1 ![0] Cert.RefOutIdeal.Gen.bcast_S120_S120x1_0 (shapeCast Cert.RefOutIdeal.S120 (rScale (gnR m c)) Cert.RefOutIdeal.Gen.shapeCasts_S120x1_S120)) :=
  (θ_run defs _ _).mono (fun _ h c => ⟨((h c).1 5).trans (final5 m c), ((h c).1 6).trans (final6 m c), ((h c).1 7).trans (final7 m c)⟩)
    (run_main m ρ)

end Cert.OutIdeal.Val
end
-- ==== Proof.OutBitsKit.lean ====
module

public import proofs.«01_k».proof.Proof.Gen.Out.Frame
public import proofs.«01_k».proof.Proof.Gen.Out.Skeleton
public import Idealize.ShloMosaic.Lib.Pipeline.Value

@[expose] public section

set_option maxRecDepth 16384

noncomputable section

namespace Cert.Out.Hand

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S120x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S120x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S120x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S120x8192 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S120x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x8192 .bf16 := Memref.whole cc0_scratch0
abbrev scM0_1 : Memref sig .tc .vmem S120x8192 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves, as functions of the blocks it reads -/

/-- The rectangle of the four column groups (one RMS group each) of a row-complete block. -/
abbrev rg (o : ℕ) (h : ∀ a, (![0, o] : Fin 2 → ℕ) a + S120x2048.size a ≤ S120x8192.size a) : Rect S120x8192 :=
  Rect.unit (s := S120x8192) ![0, o] S120x2048.size h

/-- The same columns of the one-row norm weight. -/
abbrev rw1 (o : ℕ) (h : ∀ a, (![0, o] : Fin 2 → ℕ) a + S1x2048.size a ≤ S1x8192.size a) : Rect S1x8192 :=
  Rect.unit (s := S1x8192) ![0, o] S1x2048.size h

/-- The four stores of the gated, normalised rows, the last first. -/
def gnL (x0 x1 : Vec F S120x8192 .f32) (x2 : Vec F S1x8192 .f32) : List (View.Piece (Elt F) S120x8192 .f32) :=
  [⟨rg 6144 inb_S120x8192_S120x2048_0_6144,
      k0_pay11 (k0_pay8 (View.ld x0 (rg 6144 inb_S120x8192_S120x2048_0_6144)) (View.ld x1 (rg 6144 inb_S120x8192_S120x2048_0_6144)))
        (k0_pay9 (View.ld x0 (rg 6144 inb_S120x8192_S120x2048_0_6144)) (View.ld x1 (rg 6144 inb_S120x8192_S120x2048_0_6144)))
        (k0_pay10 (F := F)) (View.ld x2 (rw1 6144 inb_S1x8192_S1x2048_0_6144))⟩,
   ⟨rg 4096 inb_S120x8192_S120x2048_0_4096,
      k0_pay7 (View.ld x0 (rg 4096 inb_S120x8192_S120x2048_0_4096)) (View.ld x1 (rg 4096 inb_S120x8192_S120x2048_0_4096))
        (View.ld x2 (rw1 4096 inb_S1x8192_S1x2048_0_4096))⟩,
   ⟨rg 2048 inb_S120x8192_S120x2048_0_2048,
      k0_pay6 (k0_pay4 (View.ld x0 (rg 2048 inb_S120x8192_S120x2048_0_2048)) (View.ld x1 (rg 2048 inb_S120x8192_S120x2048_0_2048)))
        (k0_pay5 (View.ld x2 (rw1 2048 inb_S1x8192_S1x2048_0_2048)))⟩,
   ⟨rg 0 inb_S120x8192_S120x2048_0_0,
      k0_pay3 (View.ld x0 (rg 0 inb_S120x8192_S120x2048_0_0)) (View.ld x1 (rg 0 inb_S120x8192_S120x2048_0_0))
        (View.ld x2 (rw1 0 inb_S1x8192_S1x2048_0_0))⟩]

/-- The gated, normalised rows. -/
def gnV (x0 x1 : Vec F S120x8192 .f32) (x2 : Vec F S1x8192 .f32) : Vec F S120x8192 .f32 := View.canon (gnL x0 x1 x2)

/-- The two stores of the left operand of the product: eight zero rows under the codes of the rows. -/
def gbL (x0 x1 : Vec F S120x8192 .f32) (x2 : Vec F S1x8192 .f32) : List (View.Piece (Elt F) S128x8192 .bf16) :=
  [⟨Rect.unit (s := S128x8192) ![120, 0] S8x8192.size inb_S128x8192_S8x8192_120_0, k0_pay1 (k0_pay16 (F := F))⟩,
   ⟨Rect.unit (s := S128x8192) ![0, 0] S120x8192.size inb_S128x8192_S120x8192_0_0, k0_pay15 (gnV x0 x1 x2)⟩]

/-- The left operand of the product. -/
def gbV (x0 x1 : Vec F S120x8192 .f32) (x2 : Vec F S1x8192 .f32) : Vec F S128x8192 .bf16 := View.canon (gbL x0 x1 x2)

theorem zz : (![0, 0] : Fin 2 → ℕ) = fun _ => 0 := by funext a; fin_cases a <;> rfl

/-- One store through the whole of a buffer leaves its payload, whatever was there. -/
theorem read_store_whole {sig : RefSig} {κ : Kind} {sp : Space} {S : Shape} {e : EltTy} (v : View sig κ sp S e)
    (f : v.ty.Contents (Elt F)) {off : Fin S.rank → ℕ} (h : off = fun _ => 0) (inb : ∀ a, off a + S.size a ≤ S.size a)
    (w : S.Idx → Elt F e) : v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

theorem gnL_cover (x0 x1 : Vec F S120x8192 .f32) (x2 : Vec F S1x8192 .f32) (y : S120x8192.Idx) : ∃ p ∈ gnL x0 x1 x2, y ∈ p.1.set :=
  View.cover_of_tiled (gnL x0 x1 x2) S120x2048.size (by rfl) y

theorem gbL_cover (x0 x1 : Vec F S120x8192 .f32) (x2 : Vec F S1x8192 .f32) (y : S128x8192.Idx) : ∃ p ∈ gbL x0 x1 x2, y ∈ p.1.set := by
  have h0 : (y 0).val < 128 := (y 0).isLt
  have h1 : (y 1).val < 8192 := (y 1).isLt
  by_cases h : (y 0).val < 120
  · refine ⟨⟨Rect.unit (s := S128x8192) ![0, 0] S120x8192.size inb_S128x8192_S120x8192_0_0, k0_pay15 (gnV x0 x1 x2)⟩, .tail _ (.head _), ?_⟩
    refine (Rect.mem_set_unit (inb := inb_S128x8192_S120x8192_0_0)).mpr fun a => ?_
    fin_cases a
    · exact ⟨Nat.zero_le _, by show (y 0).val < 0 + 120; omega⟩
    · exact ⟨Nat.zero_le _, by show (y 1).val < 0 + 8192; omega⟩
  · refine ⟨⟨Rect.unit (s := S128x8192) ![120, 0] S8x8192.size inb_S128x8192_S8x8192_120_0, k0_pay1 (k0_pay16 (F := F))⟩, .head _, ?_⟩
    refine (Rect.mem_set_unit (inb := inb_S128x8192_S8x8192_120_0)).mpr fun a => ?_
    fin_cases a
    · exact ⟨by show 120 ≤ (y 0).val; omega, by show (y 0).val < 120 + 8; omega⟩
    · exact ⟨Nat.zero_le _, by show (y 1).val < 0 + 8192; omega⟩

end Cert.Out.Hand

end
-- ==== Proof.OutBitsBody.lean ====
module

public import proofs.«01_k».proof.Proof.OutBitsKit

@[expose] public section

set_option maxRecDepth 16384

noncomputable section

namespace Cert.Out.Hand

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, point by point -/

set_option maxHeartbeats 1000000 in
/-- At the first point: the rows are gated, normalised and quantised, and the first block of the product is written. -/
theorem kernelRun0_A (c : Dev nD) (i : grid0.Coords) (arg1 : Memref sig .tc .vmem S120x8192 .f32) (harg1 : arg1.IsWhole) (arg2 : Memref sig .tc .vmem S120x8192 .f32) (harg2 : arg2.IsWhole) (arg3 : Memref sig .tc .vmem S1x8192 .f32) (harg3 : arg3.IsWhole) (arg4 : Memref sig .tc .vmem S8192x256 .i8) (harg4 : arg4.IsWhole) (arg5 : Memref sig .tc .vmem S1x256 .f32) (harg5 : arg5.IsWhole) (arg6 : Memref sig .tc .vmem S120x256 .bf16) (harg6 : arg6.IsWhole) (arg7 : Memref sig .tc .vmem S120x8192 .i8) (harg7 : arg7.IsWhole) (arg8 : Memref sig .tc .vmem S120x1 .f32) (harg8 : arg8.IsWhole) (arg9 : Memref sig .tc .vmem S128x8192 .bf16) (harg9 : arg9.IsWhole) (arg10 : Memref sig .tc .vmem S120x8192 .f32) (harg10 : arg10.IsWhole) (hc0 : cond0_0 i)
    (x0 : Vec F S120x8192 .f32) (x1 : Vec F S120x8192 .f32) (x2 : Vec F S1x8192 .f32) (x3 : Vec F S8192x256 .i8) (x4 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 (gbV x0 x1 x2) x3 (k0_pay12 (gnV x0 x1 x2)) x4) ∗ owns (c : Thread nD τ) arg7 fullShare (k0_pay14 (gnV x0 x1 x2)) ∗ owns (c : Thread nD τ) arg8 fullShare (k0_pay12 (gnV x0 x1 x2)) ∗ owns (c : Thread nD τ) arg9 fullShare (gbV x0 x1 x2) ∗ (∃ d, owns (c : Thread nD τ) arg10 fullShare d)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10) K := by
    intro E K
    simp only [cc0_out_proj_eq_skeleton]; unfold cc0_out_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    have e1 : ∀ r : Rect S120x8192, View.readAt (Elt F) arg1.view r.toLoadRect (harg1.unread x0) = View.ld x0 r :=
      fun r => by rw [View.readAt_eq_ld, harg1.read_unread]
    have e2 : ∀ r : Rect S120x8192, View.readAt (Elt F) arg2.view r.toLoadRect (harg2.unread x1) = View.ld x1 r :=
      fun r => by rw [View.readAt_eq_ld, harg2.read_unread]
    have e3 : ∀ r : Rect S1x8192, View.readAt (Elt F) arg3.view r.toLoadRect (harg3.unread x2) = View.ld x2 r :=
      fun r => by rw [View.readAt_eq_ld, harg3.read_unread]
    have e4 : View.readAt (Elt F) arg4.view (Rect.unit ![0, 0] ![8192, 256] inb_S8192x256_S8192x256_0_0).toLoadRect (harg4.unread x3) = x3 := by
      rw [View.readAt_eq_ld, harg4.read_unread]; exact View.ld_unit_zero zz inb_S8192x256_S8192x256_0_0 x3
    have e5 : View.readAt (Elt F) arg5.view (Rect.unit ![0, 0] ![1, 256] inb_S1x256_S1x256_0_0).toLoadRect (harg5.unread x4) = x4 := by
      rw [View.readAt_eq_ld, harg5.read_unread]; exact View.ld_unit_zero zz inb_S1x256_S1x256_0_0 x4
    have hL : kernelRun0_A.sl.HS1_4 c arg1 harg1 arg2 harg2 arg3 harg3 x0 x1 x2 = gnL x0 x1 x2 := by
      unfold kernelRun0_A.sl.HS1_4 kernelRun0_A.sl.r kernelRun0_A.sl.r_1 kernelRun0_A.sl.r_2 kernelRun0_A.sl.r_3
      simp only [e1, e2, e3]; rfl
    have h106 : kernelRun0_A.sl.v106 c arg1 harg1 arg2 harg2 arg3 harg3 arg10 x0 x1 x2 = gnV x0 x1 x2 := by
      unfold kernelRun0_A.sl.v106
      rw [hL, View.readCov_eq_canon']
      exact View.ld_unit_zero zz inb_S120x8192_S120x8192_0_0 (View.canon (gnL x0 x1 x2))
    have hB : kernelRun0_A.sl.HS0_2 c arg1 harg1 arg2 harg2 arg3 harg3 arg10 x0 x1 x2 = gbL x0 x1 x2 := by
      unfold kernelRun0_A.sl.HS0_2; rw [h106]; rfl
    have h3 : kernelRun0_A.sl.v3 c arg1 harg1 arg2 harg2 arg3 harg3 arg9 arg10 x0 x1 x2 = gbV x0 x1 x2 := by
      unfold kernelRun0_A.sl.v3
      rw [hB, View.readCov_eq_canon']
      exact View.ld_unit_zero zz inb_S128x8192_S128x8192_0_0 (View.canon (gbL x0 x1 x2))
    have h7 : kernelRun0_A.sl.H7_1 c arg1 harg1 arg2 harg2 arg3 harg3 arg10 x0 x1 x2
        = [⟨Rect.unit ![0, 0] S120x1.size inb_S120x1_S120x1_0_0, k0_pay12 (gnV x0 x1 x2)⟩] := by
      unfold kernelRun0_A.sl.H7_1; rw [h106]
    have h8 : kernelRun0_A.sl.v8 c arg1 harg1 arg2 harg2 arg3 harg3 arg8 arg10 x0 x1 x2 = k0_pay12 (gnV x0 x1 x2) := by
      unfold kernelRun0_A.sl.v8
      rw [h7]; exact View.readCov_unit_zero arg8.view zz inb_S120x1_S120x1_0_0 _
    rw [e4, e5, hL, h106, hB, h3, h7, h8]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      exact read_store_whole arg6.view f5 zz inb_S120x256_S120x256_0_0 _
    isplitl [H6]
    · iexists _; isplitr; swap; · iexact H6
      ipureintro
      exact read_store_whole arg7.view f6 zz inb_S120x8192_S120x8192_0_0 _
    isplitl [H7]
    · iexists _; isplitr; swap; · iexact H7
      ipureintro
      exact read_store_whole arg8.view f7 zz inb_S120x1_S120x1_0_0 _
    isplitl [HS0]
    · iexists _; isplitr; swap; · iexact HS0
      ipureintro
      exact View.read_writes_eq_canon arg9.view fs0 _ (gbL_cover x0 x1 x2)
    iexists _, _; isplitr; swap; · iexact HS1
    ipureintro; rfl

set_option maxHeartbeats 1000000 in
/-- At every later point: the codes and scales stay, and the point's block of the product is written from them. -/
theorem kernelRun0_B (c : Dev nD) (i : grid0.Coords) (arg1 : Memref sig .tc .vmem S120x8192 .f32) (harg1 : arg1.IsWhole) (arg2 : Memref sig .tc .vmem S120x8192 .f32) (harg2 : arg2.IsWhole) (arg3 : Memref sig .tc .vmem S1x8192 .f32) (harg3 : arg3.IsWhole) (arg4 : Memref sig .tc .vmem S8192x256 .i8) (harg4 : arg4.IsWhole) (arg5 : Memref sig .tc .vmem S1x256 .f32) (harg5 : arg5.IsWhole) (arg6 : Memref sig .tc .vmem S120x256 .bf16) (harg6 : arg6.IsWhole) (arg7 : Memref sig .tc .vmem S120x8192 .i8) (harg7 : arg7.IsWhole) (arg8 : Memref sig .tc .vmem S120x1 .f32) (harg8 : arg8.IsWhole) (arg9 : Memref sig .tc .vmem S128x8192 .bf16) (harg9 : arg9.IsWhole) (arg10 : Memref sig .tc .vmem S120x8192 .f32) (harg10 : arg10.IsWhole) (hc0 : ¬cond0_0 i)
    (x0 : Vec F S120x8192 .f32) (x1 : Vec F S120x8192 .f32) (x2 : Vec F S1x8192 .f32) (x3 : Vec F S8192x256 .i8) (x4 : Vec F S1x256 .f32)
    (y7 : Vec F S120x8192 .i8) (y8 : Vec F S120x1 .f32) (y9 : Vec F S128x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y7 ∗ owns (c : Thread nD τ) arg8 fullShare y8 ∗ owns (c : Thread nD τ) arg9 fullShare y9 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 y9 x3 y8 x4) ∗ owns (c : Thread nD τ) arg7 fullShare y7 ∗ owns (c : Thread nD τ) arg8 fullShare y8 ∗ owns (c : Thread nD τ) arg9 fullShare y9 ∗ (∃ d, owns (c : Thread nD τ) arg10 fullShare d)) -∗ K ⟨⟩))
          ⊢ wp frame (wpE (defs₀ (F := F)) Variants.none c none) E (cc0_out_proj i arg1 harg1 arg2 harg2 arg3 harg3 arg4 harg4 arg5 harg5 arg6 harg6 arg7 harg7 arg8 harg8 arg9 harg9 arg10 harg10) K := by
    intro E K
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0
    sl_exec (disch := first | sl_exact hc0)
    sl_step
    have e4 : View.readAt (Elt F) arg4.view (Rect.unit ![0, 0] ![8192, 256] inb_S8192x256_S8192x256_0_0).toLoadRect (harg4.unread x3) = x3 := by
      rw [View.readAt_eq_ld, harg4.read_unread]; exact View.ld_unit_zero zz inb_S8192x256_S8192x256_0_0 x3
    have e5 : View.readAt (Elt F) arg5.view (Rect.unit ![0, 0] ![1, 256] inb_S1x256_S1x256_0_0).toLoadRect (harg5.unread x4) = x4 := by
      rw [View.readAt_eq_ld, harg5.read_unread]; exact View.ld_unit_zero zz inb_S1x256_S1x256_0_0 x4
    have e8 : View.readAt (Elt F) arg8.view (Rect.unit ![0, 0] ![120, 1] inb_S120x1_S120x1_0_0).toLoadRect (harg8.unread y8) = y8 := by
      rw [View.readAt_eq_ld, harg8.read_unread]; exact View.ld_unit_zero zz inb_S120x1_S120x1_0_0 y8
    have e9 : View.readAt (Elt F) arg9.view (Rect.unit ![0, 0] ![128, 8192] inb_S128x8192_S128x8192_0_0).toLoadRect (harg9.unread y9) = y9 := by
      rw [View.readAt_eq_ld, harg9.read_unread]; exact View.ld_unit_zero zz inb_S128x8192_S128x8192_0_0 y9
    rw [e4, e5, e8, e9]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      exact read_store_whole arg6.view f5 zz inb_S120x256_S120x256_0_0 _
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexists _, _; isplitr; swap; · iexact HS1
    ipureintro; rfl

end Cert.Out.Hand

end
-- ==== Proof.OutBitsRun.lean ====
module

public import proofs.«01_k».proof.Proof.OutBitsBody
public import Idealize.ShloMosaic.Lib.Claim
public import Idealize.ShloMosaic.Lib.Pipeline.TableIdle

@[expose] public section

set_option maxRecDepth 16384

noncomputable section

namespace Cert.Out.Hand

open Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first point. -/
def t0 : Fin cfg0.N := ⟨0, Nat.lt_of_lt_of_eq (by decide) N_0.symm⟩

/-- The gated, normalised rows: of the blocks read at the first point. -/
def gnA (c : Dev nD) : Vec F S120x8192 .f32 := gnV (iblk m c 0 t0) (iblk m c 1 t0) (iblk m c 2 t0)

/-- The left operand of the product, kept from the first point on. -/
def gbA (c : Dev nD) : Vec F S128x8192 .bf16 := gbV (iblk m c 0 t0) (iblk m c 1 t0) (iblk m c 2 t0)

/-- The block of the product that a point writes. -/
def outA (c : Dev nD) (t : Fin cfg0.N) : Vec F S120x256 .bf16 :=
  k0_pay2 (gbA m c) (iblk m c 3 t) (k0_pay12 (gnA m c)) (iblk m c 4 t)

/-- What holds between points: the scratch buffers at anything before the first, and from then on the left operand in the first of
    them. -/
def PhiT (c : Dev nD) (n : ℕ) : sProp 𝕄 :=
  if n = 0 then Pipeline.ΦA spec0 c
  else iprop(iprop(owns (c : Thread nD τ) scM0_0 fullShare (gbA m c) ∗ (∃ d, owns (c : Thread nD τ) scM0_1 fullShare d)) ∗ (∃ r, prngReg c r))

/-- The proof data: the inputs at their blocks; the point's block of the product; the codes and the scales, one block each for all
    points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outA m c t
    | ⟨6, _⟩ => k0_pay14 (gnA m c)
    | ⟨7, _⟩ => k0_pay12 (gnA m c)
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outA m c t := by dsimp only [dats]
theorem after0_6 (c : Dev nD) (t : Fin cfg0.N) : (dats m 0 c).after 6 t = k0_pay14 (gnA m c) := by dsimp only [dats]
theorem after0_7 (c : Dev nD) (t : Fin cfg0.N) : (dats m 0 c).after 7 t = k0_pay12 (gnA m c) := by dsimp only [dats]

theorem Phi_zero (c : Dev nD) : PhiT (F := F) m c 0 = Pipeline.ΦA spec0 c := if_pos rfl
theorem Phi_pos (c : Dev nD) {n : ℕ} (h : n ≠ 0) : PhiT m c n
    = iprop(iprop(owns (c : Thread nD τ) scM0_0 fullShare (gbA m c) ∗ (∃ d, owns (c : Thread nD τ) scM0_1 fullShare d)) ∗ (∃ r, prngReg c r)) :=
  if_neg h

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The codes and the scales keep their blocks -/

theorem N16 : cfg0.N = 16 := N_0

/-- The staging buffers of the codes and of the scales hold nothing yet at the first point only. -/
theorem fresh6 : ∀ n, n ≤ cfg0.N → cfg0.fresh 6 n = (n == 0 || n == 16) :=
  Pipeline.Cfg.fresh_tab (cfg := cfg0) 6 (fun n => n == 0 || n == 16) rfl (by decide +kernel)
theorem fresh7 : ∀ n, n ≤ cfg0.N → cfg0.fresh 7 n = (n == 0 || n == 16) :=
  Pipeline.Cfg.fresh_tab (cfg := cfg0) 7 (fun n => n == 0 || n == 16) rfl (by decide +kernel)

theorem before0_6 (c : Dev nD) (t : Fin cfg0.N) (ht : t.val ≠ 0) (d) : (dats m 0 c).before 6 t d = k0_pay14 (gnA m c) := by
  rw [(dats m 0 c).before_out_traj 6 rfl (fun _ _ => rfl) (fun t h _ _ => by rw [after0_6, after0_6]) t.val t rfl d,
    fresh6 t.val t.isLt.le, if_neg (by have := Nat.lt_of_lt_of_eq t.isLt N16; simp only [Bool.or_eq_true, beq_iff_eq]; omega), after0_6]
theorem before0_7 (c : Dev nD) (t : Fin cfg0.N) (ht : t.val ≠ 0) (d) : (dats m 0 c).before 7 t d = k0_pay12 (gnA m c) := by
  rw [(dats m 0 c).before_out_traj 7 rfl (fun _ _ => rfl) (fun t h _ _ => by rw [after0_7, after0_7]) t.val t rfl d,
    fresh7 t.val t.isLt.le, if_neg (by have := Nat.lt_of_lt_of_eq t.isLt N16; simp only [Bool.or_eq_true, beq_iff_eq]; omega), after0_7]

/-- A buffer that holds its block for good is left as the pipeline asks, whether or not the point writes it back. -/
theorem leaves_of_after (c : Dev nD) (w : Fin cfg0.W) (t : Fin cfg0.N) (d) (h : (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases cfg0.idle w (cfg0.grid.coords t) with
  | false => exact .rfl
  | true =>
    cases (cfg0.win w).flush t with
    | true => exact .rfl
    | false =>
      dsimp only
      iintro H
      iexists d
      rw [h]; iexact H

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl,
    Phi_pos m c (Nat.succ_ne_zero _)]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from rfl, after0_5]
  by_cases h0 : t.val = 0
  · obtain rfl : t = t0 := Fin.ext h0
    rw [show t0.val = 0 from rfl, Phi_zero, PhiA0_eq]
    rw [show (dats m 0 c).leavesExact 6 t0 = owns (c : Thread nD τ) (ms0_6 t0) fullShare ((dats m 0 c).after 6 t0) from rfl, after0_6]
    rw [show (dats m 0 c).leavesExact 7 t0 = owns (c : Thread nD τ) (ms0_7 t0) fullShare ((dats m 0 c).after 7 t0) from rfl, after0_7]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ _ _ ((hcond0_0 t0).mpr rfl) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi_pos m c h0]
    have hc : ¬ t.val % 16 = 0 := by omega
    simp only [before0_6 m c t h0, before0_7 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => hc ((hcond0_0 t).mp h)) (iblk m c 0 t) (iblk m c 1 t) (iblk m c 2 t) (iblk m c 3 t) (iblk m c 4 t) (k0_pay14 (gnA m c)) (k0_pay12 (gnA m c)) (gbA m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_of_after m c 6 t d6 ((before0_6 m c t h0 d6).trans (after0_6 m c t).symm)); rw [after0_6]; iexact H6
    iapply (leaves_of_after m c 7 t d7 ((before0_7 m c t h0 d7).trans (after0_7 m c t).symm)); rw [after0_7]; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_in (c : Dev nD) : Pipeline.ΦA spec0 c ⊢ PhiT (F := F) m c 0 := by rw [Phi_zero]
theorem Phi_out (c : Dev nD) : PhiT (F := F) m c 16 ⊢ Pipeline.ΦA spec0 c := by
  rw [Phi_pos m c (by decide), PhiA0_eq]
  iintro ⟨⟨HS0, HS1⟩, Hg⟩
  isplitl [HS0 HS1]
  · isplitl [HS0]
    · iexists _; iexact HS0
    iexact HS1
  iexact Hg

set_option backward.isDefEq.respectTransparency.types false in
/-- The launch: the arrays end as the proof data say, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Out.Hand

end
-- ==== Proof.OutClaims.lean ====
module

public import proofs.«01_k».proof.Proof.OutValue
public import proofs.«01_k».proof.Defs
public import proofs.«01_k».proof.Proof.OutBitsRun

/-! # The claims about the output projection -/

@[expose] public section

set_option maxRecDepth 16384

noncomputable section

namespace Cert.Proof.OutClaims
open Idealize.ShloMosaic Idealize.SL.Sem

theorem frame : Cert.quiescent_Out := fun m ρ _ => Cert.Out.Hand.frame m ρ

theorem frame_ideal : Cert.quiescent_OutIdeal := fun m ρ _ => Cert.OutIdeal.Hand.frame m ρ

theorem frame_ref : Cert.quiescent_RefOutIdeal := fun m ρ _ =>
  (θ_run Cert.RefOutIdeal.defs _ _).mono (fun r h => ⟨fun c => (h c).2.2.2, sem_eq_zero_of_no_sems (by decide) r.2⟩)
    (Cert.RefOutIdeal.Value.run (F := Ideal) m ρ)

theorem algebraic : Cert.algebraic_OutIdeal_RefOutIdeal := by
  intro m g m' g' _ hag
  have e0 : ∀ c, Cert.OutSpec.rGn m' c = Cert.OutIdeal.Val.gnR m c := fun c => by
    obtain ⟨h0, h1, h2, h3, h4⟩ := hag c
    unfold Cert.OutSpec.rGn Cert.OutIdeal.Val.gnR
    rw [h0, h1, h2]
  refine ⟨fun c => _, fun c => _, fun c => _,
    (θ_run _ _ _).mono (fun r h c => ⟨(h.1 c).1, (h.1 c).2.1, (h.1 c).2.2, h.2 c⟩)
      (θ_run_and (Cert.OutIdeal.Val.run m g) (Cert.OutIdeal.Hand.unchanged m g)),
    (θ_run _ _ _).mono (fun r h c => ?_) (Cert.RefOutIdeal.Value.run (F := Ideal) m' g')⟩
  obtain ⟨h0, h1, h2, h3, h4⟩ := hag c
  refine ⟨((h c).1.trans (Cert.OutSpec.res0 m' c)).trans ?_, ((h c).2.1.trans (Cert.OutSpec.res1 m' c)).trans ?_,
    ((h c).2.2.1.trans (Cert.OutSpec.res2 m' c)).trans ?_, (h c).2.2.2⟩
  · rw [e0, h3, h4]
  · rw [e0]
  · rw [e0]

end Cert.Proof.OutClaims
end
-- ==== Proof.lean ====
module

public import proofs.«01_k».proof.Proof.Gen.RefInIdeal.Run
public import proofs.«01_k».proof.Proof.InRun
public import proofs.«01_k».proof.Proof.InClaims
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.RefInIdeal
public import proofs.«01_k».proof.Proof.Gen.Pre_slots_distinct
public import proofs.«01_k».proof.Proof.Gen.RefOutIdeal.Run
public import proofs.«01_k».proof.Proof.OutRun
public import proofs.«01_k».proof.Proof.OutClaims
public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.RefOutIdeal
public import Idealize.ShloMosaic.Adequacy
public import Idealize.ShloMosaic.Init

@[expose] public section

noncomputable section

namespace Cert.Proof

open Idealize.ShloMosaic Idealize.SL.Sem Cert.Out

theorem claim : Cert.Claim := ⟨Cert.In.Gen.facts, Cert.InIdeal.Gen.facts, Cert.RefInIdeal.Gen.facts,
  Cert.Out.Gen.facts, Cert.OutIdeal.Gen.facts, Cert.RefOutIdeal.Gen.facts, Cert.Pre_slots_distinct.Gen.facts,
  InClaims.frame, InClaims.frame_ideal, InClaims.frame_ideal_pre, InClaims.frame_ref, InClaims.frame_ref_pre,
  OutClaims.frame, OutClaims.frame_ideal, OutClaims.frame_ref,
  trivial, InClaims.algebraic, trivial, OutClaims.algebraic⟩

end Cert.Proof

end
